-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fit [hPre_sizes_fit : Cert.Pre_sizes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_fit [hReferenceIdeal : Cert.ReferenceIdeal.Facts] [hPre_sizes_fit : Cert.Pre_sizes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_fit : Cert.Pre_sizes_fit.Facts),
    quiescent_Kernel (hKernel := hKernel) (hPre_sizes_fit := hPre_sizes_fit)
    ∧ quiescent_KernelIdeal (hKernelIdeal := hKernelIdeal) (hPre_sizes_fit := hPre_sizes_fit)
    ∧ quiescent_ReferenceIdeal (hReferenceIdeal := hReferenceIdeal)
    ∧ quiescent_ReferenceIdeal_pre_sizes_fit (hReferenceIdeal := hReferenceIdeal) (hPre_sizes_fit := hPre_sizes_fit)
    ∧ preserves_Kernel_KernelIdeal
    ∧ algebraic_KernelIdeal_ReferenceIdeal (hKernelIdeal := hKernelIdeal) (hReferenceIdeal := hReferenceIdeal) (hPre_sizes_fit := hPre_sizes_fit)
-- ==== Pre_sizes_fit.lean ====
abbrev S12288x2816 : Shape := ⟨2, ![12288, 2816]⟩
abbrev S12288x1 : Shape := ⟨2, ![12288, 1]⟩
abbrev S8 : Shape := ⟨1, ![8]⟩
abbrev S8x2816x2816 : Shape := ⟨3, ![8, 2816, 2816]⟩
abbrev S8x2816 : Shape := ⟨2, ![8, 2816]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S12288x2816 .fp8e4m3) (main_arg1 : FVec F S12288x1 .f32) (main_arg2 : IVec S8 32) (main_arg3 : FVec F S8x2816x2816 .fp8e4m3) (main_arg4 : FVec F S8x2816 .f32) : IVec S_ 1 :=
  let main_c : IVec S_ 32 := constantI S_ 32 0#32
  let main_v0 : IVec S8 32 := broadcastInDim S8 ![] bcast_S_S8 main_c
  let main_v1 : IVec S8 1 := cmpi .sge main_arg2 main_v0
  let main_c_0 : IVec S_ 32 := constantI S_ 32 12288#32
  let main_v2 : IVec S8 32 := broadcastInDim S8 ![] bcast_S_S8 main_c_0
  let main_v3 : IVec S8 1 := cmpi .sle main_arg2 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg2 main_c_2
  let main_c_3 : IVec S_ 32 := constantI S_ 32 12288#32
  let main_v7 : IVec S_ 1 := cmpi .eq main_v6 main_c_3
  let main_v8 : IVec S_ 1 := andi main_v5 main_v7
  main_v8
-- ==== Kernel.lean ====
abbrev S12288x2816 : Shape := ⟨2, ![12288, 2816]⟩
abbrev S12288x1 : Shape := ⟨2, ![12288, 1]⟩
abbrev S8 : Shape := ⟨1, ![8]⟩
abbrev S8x2816x2816 : Shape := ⟨3, ![8, 2816, 2816]⟩
abbrev S8x2816 : Shape := ⟨2, ![8, 2816]⟩
abbrev S_ : Shape := ⟨0, ![]⟩
abbrev S1 : Shape := ⟨1, ![1]⟩
abbrev S31 : Shape := ⟨1, ![31]⟩
abbrev S1x31 : Shape := ⟨2, ![1, 31]⟩
abbrev S8x1 : Shape := ⟨2, ![8, 1]⟩
abbrev S8x31 : Shape := ⟨2, ![8, 31]⟩
abbrev S31x1 : Shape := ⟨2, ![31, 1]⟩
abbrev S8x1x2816 : Shape := ⟨3, ![8, 1, 2816]⟩
abbrev S512x2816 : Shape := ⟨2, ![512, 2816]⟩
abbrev S512x1 : Shape := ⟨2, ![512, 1]⟩
abbrev S1x2816x2816 : Shape := ⟨3, ![1, 2816, 2816]⟩
abbrev S1x1x2816 : Shape := ⟨3, ![1, 1, 2816]⟩
abbrev S1x2816x256 : Shape := ⟨3, ![1, 2816, 256]⟩
abbrev S2816x256 : Shape := ⟨2, ![2816, 256]⟩
abbrev S512x256 : Shape := ⟨2, ![512, 256]⟩
abbrev S1x1x256 : Shape := ⟨3, ![1, 1, 256]⟩
abbrev S1x256 : Shape := ⟨2, ![1, 256]⟩

abbrev nBuf : Space → Nat
  | .hbm => 118
  | .vmem => 10
  | .smem => 4
  | _ => 0

abbrev bufTy : (tb : Table) → Fin (tcTables nBuf tb) → BufTy
  | .hbm, ⟨0, _⟩ => ⟨S12288x2816, .fp8e4m3⟩
  | .hbm, ⟨1, _⟩ => ⟨S12288x1, .f32⟩
  | .hbm, ⟨2, _⟩ => ⟨S8, .i32⟩
  | .hbm, ⟨3, _⟩ => ⟨S8x2816x2816, .fp8e4m3⟩
  | .hbm, ⟨4, _⟩ => ⟨S8x2816, .f32⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i1⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i1⟩
  | .hbm, ⟨43, _⟩ => ⟨S8, .i1⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S8, .i32⟩
  | .hbm, ⟨48, _⟩ => ⟨S_, .i32⟩
  | .hbm, ⟨49, _⟩ => ⟨S8, .i32⟩
  | .hbm, ⟨50, _⟩ => ⟨S8, .i1⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S_, .i32⟩
  | .hbm, ⟨56, _⟩ => ⟨S_, .i32⟩
  | .hbm, ⟨57, _⟩ => ⟨S8, .i32⟩
  | .hbm, ⟨58, _⟩ => ⟨S8, .i32⟩
  | .hbm, ⟨59, _⟩ => ⟨S_, .i32⟩
  | .hbm, ⟨60, _⟩ => ⟨S_, .i32⟩
  | .hbm, ⟨61, _⟩ => ⟨S8, .i32⟩
  | .hbm, ⟨62, _⟩ => ⟨S1, .i32⟩
  | .hbm, ⟨63, _⟩ => ⟨S_, .i32⟩
  | .hbm, ⟨64, _⟩ => ⟨S31, .i32⟩
  | .hbm, ⟨65, _⟩ => ⟨S_, .i32⟩
  | .hbm, ⟨66, _⟩ => ⟨S_, .i32⟩
  | .hbm, ⟨67, _⟩ => ⟨S31, .i32⟩
  | .hbm, ⟨68, _⟩ => ⟨S31, .i32⟩
  | .hbm, ⟨69, _⟩ => ⟨S1x31, .i32⟩
  | .hbm, ⟨70, _⟩ => ⟨S8x1, .i32⟩
  | .hbm, ⟨71, _⟩ => ⟨S8x31, .i32⟩
  | .hbm, ⟨72, _⟩ => ⟨S8x31, .i32⟩
  | .hbm, ⟨73, _⟩ => ⟨S8x31, .i1⟩
  | .hbm, ⟨74, _⟩ => ⟨S8x31, .i32⟩
  | .hbm, ⟨75, _⟩ => ⟨S_, .i32⟩
  | .hbm, ⟨76, _⟩ => ⟨S_, .i32⟩
  | .hbm, ⟨77, _⟩ => ⟨S31, .i32⟩
  | .hbm, ⟨78, _⟩ => ⟨S31, .i1⟩
  | .hbm, ⟨79, _⟩ => ⟨S_, .i32⟩
  | .hbm, ⟨80, _⟩ => ⟨S31, .i32⟩
  | .hbm, ⟨81, _⟩ => ⟨S31, .i32⟩
  | .hbm, ⟨82, _⟩ => ⟨S31, .i32⟩
  | .hbm, ⟨83, _⟩ => ⟨S31x1, .i32⟩
  | .hbm, ⟨84, _⟩ => ⟨S31, .i32⟩
  | .hbm, ⟨85, _⟩ => ⟨S31, .i32⟩
  | .hbm, ⟨86, _⟩ => ⟨S_, .i32⟩
  | .hbm, ⟨87, _⟩ => ⟨S31, .i32⟩
  | .hbm, ⟨88, _⟩ => ⟨S31, .i1⟩
  | .hbm, ⟨89, _⟩ => ⟨S_, .i32⟩
  | .hbm, ⟨90, _⟩ => ⟨S31, .i32⟩
  | .hbm, ⟨91, _⟩ => ⟨S31, .i32⟩
  | .hbm, ⟨92, _⟩ => ⟨S31, .i32⟩
  | .hbm, ⟨93, _⟩ => ⟨S31x1, .i32⟩
  | .hbm, ⟨94, _⟩ => ⟨S31, .i32⟩
  | .hbm, ⟨95, _⟩ => ⟨S_, .i32⟩
  | .hbm, ⟨96, _⟩ => ⟨S31, .i32⟩
  | .hbm, ⟨97, _⟩ => ⟨S31, .i1⟩
  | .hbm, ⟨98, _⟩ => ⟨S_, .i32⟩
  | .hbm, ⟨99, _⟩ => ⟨S31, .i32⟩
  | .hbm, ⟨100, _⟩ => ⟨S31, .i32⟩
  | .hbm, ⟨101, _⟩ => ⟨S31, .i32⟩
  | .hbm, ⟨102, _⟩ => ⟨S31x1, .i32⟩
  | .hbm, ⟨103, _⟩ => ⟨S31, .i32⟩
  | .hbm, ⟨104, _⟩ => ⟨S31, .i32⟩
  | .hbm, ⟨105, _⟩ => ⟨S31, .i32⟩
  | .hbm, ⟨106, _⟩ => ⟨S31, .i32⟩
  | .hbm, ⟨107, _⟩ => ⟨S31, .i1⟩
  | .hbm, ⟨108, _⟩ => ⟨S_, .i32⟩
  | .hbm, ⟨109, _⟩ => ⟨S31, .i32⟩
  | .hbm, ⟨110, _⟩ => ⟨S31, .i1⟩
  | .hbm, ⟨111, _⟩ => ⟨S_, .i32⟩
  | .hbm, ⟨112, _⟩ => ⟨S31, .i32⟩
  | .hbm, ⟨113, _⟩ => ⟨S31, .i32⟩
  | .hbm, ⟨114, _⟩ => ⟨S31, .i32⟩
  | .hbm, ⟨115, _⟩ => ⟨S31x1, .i32⟩
  | .hbm, ⟨116, _⟩ => ⟨S8x1x2816, .f32⟩
  | .hbm, ⟨117, _⟩ => ⟨S12288x2816, .bf16⟩
  | .local _ .vmem, ⟨0, _⟩ => ⟨S512x2816, .fp8e4m3⟩
  | .local _ .vmem, ⟨1, _⟩ => ⟨S512x2816, .fp8e4m3⟩
  | .local _ .vmem, ⟨2, _⟩ => ⟨S512x1, .f32⟩
  | .local _ .vmem, ⟨3, _⟩ => ⟨S512x1, .f32⟩
  | .local _ .vmem, ⟨4, _⟩ => ⟨S1x2816x2816, .fp8e4m3⟩
  | .local _ .vmem, ⟨5, _⟩ => ⟨S1x2816x2816, .fp8e4m3⟩
  | .local _ .vmem, ⟨6, _⟩ => ⟨S1x1x2816, .f32⟩
  | .local _ .vmem, ⟨7, _⟩ => ⟨S1x1x2816, .f32⟩
  | .local _ .vmem, ⟨8, _⟩ => ⟨S512x2816, .bf16⟩
  | .local _ .vmem, ⟨9, _⟩ => ⟨S512x2816, .bf16⟩
  | .local _ .smem, ⟨0, _⟩ => ⟨S31, .i32⟩
  | .local _ .smem, ⟨1, _⟩ => ⟨S31, .i32⟩
  | .local _ .smem, ⟨2, _⟩ => ⟨S31, .i32⟩
  | .local _ .smem, ⟨3, _⟩ => ⟨S31, .i32⟩
  | _, _ => ⟨S12288x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v5 : Ref sig .tc := ⟨.hbm, 47, rfl⟩
abbrev main_c_2 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_5 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_call5_call0_v0 : Ref sig .tc := ⟨.hbm, 69, rfl⟩
abbrev main_call5_call0_v1 : Ref sig .tc := ⟨.hbm, 70, rfl⟩
abbrev main_call5_call0_v2 : Ref sig .tc := ⟨.hbm, 71, rfl⟩
abbrev main_call5_call0_v3 : Ref sig .tc := ⟨.hbm, 72, rfl⟩
abbrev main_call5_call0_v4 : Ref sig .tc := ⟨.hbm, 73, rfl⟩
abbrev main_call5_call0_v5 : Ref sig .tc := ⟨.hbm, 74, rfl⟩
abbrev main_call5_call0_c : Ref sig .tc := ⟨.hbm, 75, rfl⟩
abbrev main_c_6 : Ref sig .tc := ⟨.hbm, 76, rfl⟩
abbrev main_v20 : Ref sig .tc := ⟨.hbm, 77, rfl⟩
abbrev main_v21 : Ref sig .tc := ⟨.hbm, 78, rfl⟩
abbrev main_c_7 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_c_8 : Ref sig .tc := ⟨.hbm, 86, rfl⟩
abbrev main_v28 : Ref sig .tc := ⟨.hbm, 87, rfl⟩
abbrev main_v29 : Ref sig .tc := ⟨.hbm, 88, rfl⟩
abbrev main_c_9 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_c_10 : Ref sig .tc := ⟨.hbm, 95, rfl⟩
abbrev main_v35 : Ref sig .tc := ⟨.hbm, 96, rfl⟩
abbrev main_v36 : Ref sig .tc := ⟨.hbm, 97, rfl⟩
abbrev main_c_11 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_c_12 : Ref sig .tc := ⟨.hbm, 108, rfl⟩
abbrev main_v47 : Ref sig .tc := ⟨.hbm, 109, rfl⟩
abbrev main_v48 : Ref sig .tc := ⟨.hbm, 110, rfl⟩
abbrev main_c_13 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v55 : Ref sig .tc := ⟨.hbm, 116, rfl⟩
abbrev main_v56 : Ref sig .tc := ⟨.hbm, 117, rfl⟩
abbrev main_v19 : Ref sig .tc := ⟨.smem, 0, rfl⟩
abbrev main_v43 : Ref sig .tc := ⟨.smem, 1, rfl⟩
abbrev main_v53 : Ref sig .tc := ⟨.smem, 2, rfl⟩
abbrev main_v54 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![31], ![false]⟩

abbrev pre0 : Pipeline.Prefetch sig := ⟨4, ![main_v19.idx, main_v43.idx, main_v53.idx, main_v54.idx], fun | 0 => main_v19.names | 1 => main_v43.names | 2 => main_v53.names | 3 => main_v54.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def cc0_transform_0 (k0_off1_inb : ∀ i : grid0.Coords, ∀ a, (k0_off1 i) a + S1.size a ≤ S31.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S31) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S31.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S31) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S31.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S31) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S31.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S31) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S31.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S31) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2816 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x2816 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S12288x2816 : Shape := ⟨2, ![12288, 2816]⟩
abbrev S12288x1 : Shape := ⟨2, ![12288, 1]⟩
abbrev S8 : Shape := ⟨1, ![8]⟩
abbrev S8x2816x2816 : Shape := ⟨3, ![8, 2816, 2816]⟩
abbrev S8x2816 : Shape := ⟨2, ![8, 2816]⟩
abbrev S_ : Shape := ⟨0, ![]⟩
abbrev S12288 : Shape := ⟨1, ![12288]⟩
abbrev S1x8 : Shape := ⟨2, ![1, 8]⟩
abbrev S12288x8 : Shape := ⟨2, ![12288, 8]⟩
abbrev S1x2816x2816 : Shape := ⟨3, ![1, 2816, 2816]⟩
abbrev S2816x2816 : Shape := ⟨2, ![2816, 2816]⟩
abbrev S1x2816 : Shape := ⟨2, ![1, 2816]⟩

abbrev nBuf : Space → Nat
  | .hbm => 19
  | .vmem => 6
  | .smem => 0
  | _ => 0

abbrev bufTy : (tb : Table) → Fin (tcTables nBuf tb) → BufTy
  | .hbm, ⟨0, _⟩ => ⟨S12288x2816, .fp8e4m3⟩
  | .hbm, ⟨1, _⟩ => ⟨S12288x1, .f32⟩
  | .hbm, ⟨2, _⟩ => ⟨S8, .i32⟩
  | .hbm, ⟨3, _⟩ => ⟨S8x2816x2816, .fp8e4m3⟩
  | .hbm, ⟨4, _⟩ => ⟨S8x2816, .f32⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S12288, .i32⟩
  | .hbm, ⟨9, _⟩ => ⟨S12288x1, .i32⟩
  | .hbm, ⟨10, _⟩ => ⟨S1x8, .i32⟩
  | .hbm, ⟨11, _⟩ => ⟨S12288x8, .i32⟩
  | .hbm, ⟨12, _⟩ => ⟨S12288x8, .i32⟩
  | .hbm, ⟨13, _⟩ => ⟨S12288x8, .i1⟩
  | .hbm, ⟨14, _⟩ => ⟨S12288x8, .i32⟩
  | .hbm, ⟨15, _⟩ => ⟨S_, .i32⟩
  | .hbm, ⟨16, _⟩ => ⟨S12288, .i32⟩
  | .hbm, ⟨17, _⟩ => ⟨S12288x1, .i32⟩
  | .hbm, ⟨18, _⟩ => ⟨S12288x2816, .bf16⟩
  | .local _ .vmem, ⟨0, _⟩ => ⟨S12288x2816, .fp8e4m3⟩
  | .local _ .vmem, ⟨1, _⟩ => ⟨S12288x1, .f32⟩
  | .local _ .vmem, ⟨2, _⟩ => ⟨S12288x1, .i32⟩
  | .local _ .vmem, ⟨3, _⟩ => ⟨S8x2816x2816, .fp8e4m3⟩
  | .local _ .vmem, ⟨4, _⟩ => ⟨S8x2816, .f32⟩
  | .local _ .vmem, ⟨5, _⟩ => ⟨S12288x2816, .bf16⟩
  | _, _ => ⟨S12288x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2816x2816 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.Kit.lean ====
/- What the run of the kernel's pipeline is stated over: the buffers' contents when the pipeline is entered (`V`,
   the host operations applied to the launch memory), the prefetched tables read off them, and the windows' blocks. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host program's stretches of operations, in order. -/
abbrev opss : List (List (HloOp τ sig (Elt F))) :=
  [hostOps0, hostOps0_1, hostOps0_2, hostOps0_3, hostOps0_4, hostOps0_5, hostOps0_6, hostOps0_7, hostOps0_8, hostOps0_9, hostOps0_10]

/-- The buffers' contents when the pipeline is entered: the host operations applied to the launch memory. -/
def V (c : Dev nD) (b : Ref sig .tc) : Buf (Elt F) ((c : Thread nD τ).loc b) :=
  StableHlo.after (opss (F := F)).flatten (fun b => m (c, b)) b

/-- The host program up to the pipeline leaves the buffers at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
    (by simp only [List.Forall, opss]; repeat' apply And.intro
        all_goals rfl)
    fun c => (main_chain c).trans rfl

/-- The tables' contents when the pipeline is entered. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl
/-- Every window's block is inside its array at every point, at these tables. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it. -/
abbrev tbM0 : Memref sig .tc .smem S31 .i32 := Memref.whole main_v19
abbrev htbM0 : tbM0.IsWhole := Memref.isWhole_whole _
abbrev tbM1 : Memref sig .tc .smem S31 .i32 := Memref.whole main_v43
abbrev htbM1 : tbM1.IsWhole := Memref.isWhole_whole _
abbrev tbM2 : Memref sig .tc .smem S31 .i32 := Memref.whole main_v53
abbrev htbM2 : tbM2.IsWhole := Memref.isWhole_whole _
abbrev tbM3 : Memref sig .tc .smem S31 .i32 := Memref.whole main_v54
abbrev htbM3 : tbM3.IsWhole := Memref.isWhole_whole _

/-- A table's buffer on a core: its contents' type, and it held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves the pipeline hands the body, table by table. -/
theorem PhiT_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3)) := by
  unfold Pipeline.ΦT Pipeline.prefHeld
  exact bigSep_univ_eq_bigSepL [(0 : Fin 4), (1 : Fin 4), (2 : Fin 4), (3 : Fin 4)] (by decide) (by decide) _

/-- Window `w`'s block at point `t`, read off its array as the pipeline finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Each window's current staging memref at point `t`, and its wholeness. -/
abbrev ms0 (hO : Ok m) (t : Fin (cfgM m hO).N) : Memref sig .tc .vmem S512x2816 .fp8e4m3 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S512x1 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2816x2816 .fp8e4m3 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x2816 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S512x2816 .bf16 := spec0_4.stage ((cfgM m hO).slots t 4)
abbrev hs4 (hO : Ok m) (t : Fin (cfgM m hO).N) : (ms4 m hO t).IsWhole := hstage0_4 (((cfgM m hO).slots t 4).cast nbuf0_4)

/-- The kernel body at point `t`, on what the pipeline calls it with. -/
abbrev bodyAt (a : (pcfg0 (F := F)).Adm) (t : Fin (cfg0 a).N) : Prog (TpuEff nD τ sig (Elt F) Λ₀ .tc) PUnit :=
  cc0_grouped_fp8_matmul (grid0.coords t) (Memref.whole main_v19) (Memref.isWhole_whole _) (Memref.whole main_v43) (Memref.isWhole_whole _) (Memref.whole main_v53) (Memref.isWhole_whole _) (Memref.whole main_v54) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

end Cert.Kernel.Hand

end
-- ==== Proof.Bits.Run.lean ====
/- The kernel body's run on any whole staging buffers. -/
module

public import proofs.«01_k».proof.Proof.Bits.Kit

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word table `tb` holds for grid point `i`, as the body loads it. -/
abbrev word1 (c : Dev nD) (i : grid0.Coords) (M : Memref sig .tc .smem S31 .i32) (xt : TbBuf (F := F) c M) : BitVec 32 :=
  M.view.readAt (Elt F) (Rect.unit (s := S31) (k0_off1 i) S1.size (k0_off1_inb i)).toLoadRect xt (Shape.Idx.first (numel1_S1.symm ▸ Nat.one_pos))

set_option maxHeartbeats 4000000 in
/-- At a point whose work item is real, the body leaves its inputs and tables as they were and the output buffer with
    pieces written: the pieces are the witness the run finds. -/
noncomputable def runA (c : Dev nD) (i : grid0.Coords)
    (arg5 : Memref sig .tc .vmem S512x2816 .fp8e4m3) (harg5 : arg5.IsWhole) (arg6 : Memref sig .tc .vmem S512x1 .f32) (harg6 : arg6.IsWhole)
    (arg7 : Memref sig .tc .vmem S1x2816x2816 .fp8e4m3) (harg7 : arg7.IsWhole) (arg8 : Memref sig .tc .vmem S1x1x2816 .f32) (harg8 : arg8.IsWhole)
    (arg9 : Memref sig .tc .vmem S512x2816 .bf16) (harg9 : arg9.IsWhole)
    (x5 : Vec F S512x2816 .fp8e4m3) (x6 : Vec F S512x1 .f32) (x7 : Vec F S1x2816x2816 .fp8e4m3) (x8 : Vec F S1x1x2816 .f32) (x9 : Vec F S512x2816 .bf16)
    (xt0 : TbBuf (F := F) c tbM0) (xt1 : TbBuf (F := F) c tbM1) (xt2 : TbBuf (F := F) c tbM2) (xt3 : TbBuf (F := F) c tbM3)
    (hc : k0_cond1 (word1 c i tbM3 xt3) = 1#1) :
    { L : List (View.Piece (Elt F) S512x2816 .bf16) //
      ∀ (E : Set ℕ) (K : PUnit → sProp 𝕄),
        iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ tbPt c tbM0 xt0 ∗ tbPt c tbM1 xt1 ∗ tbPt c tbM2 xt2 ∗ tbPt c tbM3 xt3
            ∗ (iprop(owns (c : Thread nD τ) arg5 fullShare x5 ∗ owns (c : Thread nD τ) arg6 fullShare x6 ∗ owns (c : Thread nD τ) arg7 fullShare x7 ∗ owns (c : Thread nD τ) arg8 fullShare x8
                ∗ (arg9.view.loc (c : Thread nD τ) ↦[arg9.view.set]{fullShare} arg9.view.writes (Elt F) (harg9.unread x9) L)
                ∗ tbPt c tbM0 xt0 ∗ tbPt c tbM1 xt1 ∗ tbPt c tbM2 xt2 ∗ tbPt c tbM3 xt3) -∗ K ⟨⟩))
          ⊢ wp frame (wpE (defs₀ (F := F)) Variants.none c none) E (cc0_grouped_fp8_matmul i tbM0 htbM0 tbM1 htbM1 tbM2 htbM2 tbM3 htbM3 arg5 harg5 arg6 harg6 arg7 harg7 arg8 harg8 arg9 harg9) K } := by
  refine ⟨?_, fun E K => ?run⟩
  case run =>
    simp only [cc0_grouped_fp8_matmul_eq_skeleton]; unfold cc0_grouped_fp8_matmul_skel
    simp only [k0_part1_eq_skeleton, k0_part2_eq_skeleton, k0_part3_eq_skeleton, k0_part4_eq_skeleton, k0_part5_eq_skeleton]; unfold k0_part1_skel k0_part2_skel k0_part3_skel k0_part4_skel k0_part5_skel
    unfold owns
    iintro ⟨⟨%f5, %hf5, H5⟩, ⟨%f6, %hf6, H6⟩, ⟨%f7, %hf7, H7⟩, ⟨%f8, %hf8, H8⟩, ⟨%f9, %hf9, H9⟩, HT0, HT1, HT2, HT3, Hk⟩
    obtain rfl := harg5.eq_unread hf5
    obtain rfl := harg6.eq_unread hf6
    obtain rfl := harg7.eq_unread hf7
    obtain rfl := harg8.eq_unread hf8
    obtain rfl := harg9.eq_unread hf9
    sl_exec (disch := first | sl_exact hc)
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [HT0]; · iexact HT0
    isplitl [HT1]; · iexact HT1
    isplitl [HT2]; · iexact HT2
    iexact HT3

/-- At a point with no work item the body leaves everything as it was. -/
theorem runB (c : Dev nD) (i : grid0.Coords)
    (arg5 : Memref sig .tc .vmem S512x2816 .fp8e4m3) (harg5 : arg5.IsWhole) (arg6 : Memref sig .tc .vmem S512x1 .f32) (harg6 : arg6.IsWhole)
    (arg7 : Memref sig .tc .vmem S1x2816x2816 .fp8e4m3) (harg7 : arg7.IsWhole) (arg8 : Memref sig .tc .vmem S1x1x2816 .f32) (harg8 : arg8.IsWhole)
    (arg9 : Memref sig .tc .vmem S512x2816 .bf16) (harg9 : arg9.IsWhole)
    (xt3 : TbBuf (F := F) c tbM3)
    (hc : ¬ k0_cond1 (word1 c i tbM3 xt3) = 1#1) (E : Set ℕ) (K : PUnit → sProp 𝕄) :
        iprop(tbPt c tbM3 xt3 ∗ (tbPt c tbM3 xt3 -∗ K ⟨⟩))
          ⊢ wp frame (wpE (defs₀ (F := F)) Variants.none c none) E (cc0_grouped_fp8_matmul i tbM0 htbM0 tbM1 htbM1 tbM2 htbM2 tbM3 htbM3 arg5 harg5 arg6 harg6 arg7 harg7 arg8 harg8 arg9 harg9) K := by
  simp only [cc0_grouped_fp8_matmul_eq_skeleton]; unfold cc0_grouped_fp8_matmul_skel
  iintro ⟨HT3, Hk⟩
  sl_exec (disch := first | sl_exact hc)
  sl_step
  iapply Hk
  iexact HT3

end Cert.Kernel.Hand

end
-- ==== Proof.Bits.Step.lean ====
/- What the kernel body leaves in the output block, in closed form: eleven column chunks of 256, each row of the block
   replaced by the scaled product where the row is at or after the item's first row and kept elsewhere. -/
module

public import proofs.«01_k».proof.Proof.Bits.Run

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a table holds for grid point `i`, as the body loads it from the start and tile tables. -/
abbrev word2 (c : Dev nD) (i : grid0.Coords) (M : Memref sig .tc .smem S31 .i32) (xt : TbBuf (F := F) c M) : BitVec 32 :=
  M.view.readAt (Elt F) (Rect.unit (s := S31) (k0_off2 i) S1.size (k0_off2_inb i)).toLoadRect xt (Shape.Idx.first (numel1_S1.symm ▸ Nat.one_pos))

abbrev ro0 : Rect S512x2816 := Rect.unit ![0, 0] S512x256.size inb_S512x2816_S512x256_0_0
abbrev rw0 : Rect S1x2816x2816 := Rect.unit ![0, 0, 0] S1x2816x256.size inb_S1x2816x2816_S1x2816x256_0_0_0
abbrev rs0 : Rect S1x1x2816 := Rect.unit ![0, 0, 0] S1x1x256.size inb_S1x1x2816_S1x1x256_0_0_0
abbrev ro1 : Rect S512x2816 := Rect.unit ![0, 256] S512x256.size inb_S512x2816_S512x256_0_256
abbrev rw1 : Rect S1x2816x2816 := Rect.unit ![0, 0, 256] S1x2816x256.size inb_S1x2816x2816_S1x2816x256_0_0_256
abbrev rs1 : Rect S1x1x2816 := Rect.unit ![0, 0, 256] S1x1x256.size inb_S1x1x2816_S1x1x256_0_0_256
abbrev ro2 : Rect S512x2816 := Rect.unit ![0, 512] S512x256.size inb_S512x2816_S512x256_0_512
abbrev rw2 : Rect S1x2816x2816 := Rect.unit ![0, 0, 512] S1x2816x256.size inb_S1x2816x2816_S1x2816x256_0_0_512
abbrev rs2 : Rect S1x1x2816 := Rect.unit ![0, 0, 512] S1x1x256.size inb_S1x1x2816_S1x1x256_0_0_512
abbrev ro3 : Rect S512x2816 := Rect.unit ![0, 768] S512x256.size inb_S512x2816_S512x256_0_768
abbrev rw3 : Rect S1x2816x2816 := Rect.unit ![0, 0, 768] S1x2816x256.size inb_S1x2816x2816_S1x2816x256_0_0_768
abbrev rs3 : Rect S1x1x2816 := Rect.unit ![0, 0, 768] S1x1x256.size inb_S1x1x2816_S1x1x256_0_0_768
abbrev ro4 : Rect S512x2816 := Rect.unit ![0, 1024] S512x256.size inb_S512x2816_S512x256_0_1024
abbrev rw4 : Rect S1x2816x2816 := Rect.unit ![0, 0, 1024] S1x2816x256.size inb_S1x2816x2816_S1x2816x256_0_0_1024
abbrev rs4 : Rect S1x1x2816 := Rect.unit ![0, 0, 1024] S1x1x256.size inb_S1x1x2816_S1x1x256_0_0_1024
abbrev ro5 : Rect S512x2816 := Rect.unit ![0, 1280] S512x256.size inb_S512x2816_S512x256_0_1280
abbrev rw5 : Rect S1x2816x2816 := Rect.unit ![0, 0, 1280] S1x2816x256.size inb_S1x2816x2816_S1x2816x256_0_0_1280
abbrev rs5 : Rect S1x1x2816 := Rect.unit ![0, 0, 1280] S1x1x256.size inb_S1x1x2816_S1x1x256_0_0_1280
abbrev ro6 : Rect S512x2816 := Rect.unit ![0, 1536] S512x256.size inb_S512x2816_S512x256_0_1536
abbrev rw6 : Rect S1x2816x2816 := Rect.unit ![0, 0, 1536] S1x2816x256.size inb_S1x2816x2816_S1x2816x256_0_0_1536
abbrev rs6 : Rect S1x1x2816 := Rect.unit ![0, 0, 1536] S1x1x256.size inb_S1x1x2816_S1x1x256_0_0_1536
abbrev ro7 : Rect S512x2816 := Rect.unit ![0, 1792] S512x256.size inb_S512x2816_S512x256_0_1792
abbrev rw7 : Rect S1x2816x2816 := Rect.unit ![0, 0, 1792] S1x2816x256.size inb_S1x2816x2816_S1x2816x256_0_0_1792
abbrev rs7 : Rect S1x1x2816 := Rect.unit ![0, 0, 1792] S1x1x256.size inb_S1x1x2816_S1x1x256_0_0_1792
abbrev ro8 : Rect S512x2816 := Rect.unit ![0, 2048] S512x256.size inb_S512x2816_S512x256_0_2048
abbrev rw8 : Rect S1x2816x2816 := Rect.unit ![0, 0, 2048] S1x2816x256.size inb_S1x2816x2816_S1x2816x256_0_0_2048
abbrev rs8 : Rect S1x1x2816 := Rect.unit ![0, 0, 2048] S1x1x256.size inb_S1x1x2816_S1x1x256_0_0_2048
abbrev ro9 : Rect S512x2816 := Rect.unit ![0, 2304] S512x256.size inb_S512x2816_S512x256_0_2304
abbrev rw9 : Rect S1x2816x2816 := Rect.unit ![0, 0, 2304] S1x2816x256.size inb_S1x2816x2816_S1x2816x256_0_0_2304
abbrev rs9 : Rect S1x1x2816 := Rect.unit ![0, 0, 2304] S1x1x256.size inb_S1x1x2816_S1x1x256_0_0_2304
abbrev ro10 : Rect S512x2816 := Rect.unit ![0, 2560] S512x256.size inb_S512x2816_S512x256_0_2560
abbrev rw10 : Rect S1x2816x2816 := Rect.unit ![0, 0, 2560] S1x2816x256.size inb_S1x2816x2816_S1x2816x256_0_0_2560
abbrev rs10 : Rect S1x1x2816 := Rect.unit ![0, 0, 2560] S1x1x256.size inb_S1x1x2816_S1x1x256_0_0_2560

abbrev rx : Rect S512x2816 := Rect.unit ![0, 0] S512x2816.size inb_S512x2816_S512x2816_0_0
abbrev rxs : Rect S512x1 := Rect.unit ![0, 0] S512x1.size inb_S512x1_S512x1_0_0

/-- What one chunk's store writes: its column chunk of the weights, scales and the block as found. -/
abbrev chunk (v6 v8 : BitVec 32) (x5 : Vec F S512x2816 .fp8e4m3) (x6 : Vec F S512x1 .f32) (w : Vec F S1x2816x256 .fp8e4m3) (s : Vec F S1x1x256 .f32) (o : Vec F S512x256 .bf16) : FVec F S512x256 .bf16 :=
  k0_pay1 (k0_pay2 (F := F) v6 v8) (View.ld (Val := Elt F) x5 rx) (View.ld (Val := Elt F) x6 rxs) w s o

/-- The output block after a real work item: `v6` the item's first row, `v8` its tile, `x9` the block as found. -/
def stepA (v6 v8 : BitVec 32) (x5 : Vec F S512x2816 .fp8e4m3) (x6 : Vec F S512x1 .f32) (x7 : Vec F S1x2816x2816 .fp8e4m3) (x8 : Vec F S1x1x2816 .f32) (x9 : Vec F S512x2816 .bf16) : Vec F S512x2816 .bf16 :=
  View.canon (Val := Elt F) [
    ⟨ro10, chunk v6 v8 x5 x6 (View.ld (Val := Elt F) x7 rw10) (View.ld (Val := Elt F) x8 rs10) (View.ld (Val := Elt F) x9 ro10)⟩,
    ⟨ro9, chunk v6 v8 x5 x6 (View.ld (Val := Elt F) x7 rw9) (View.ld (Val := Elt F) x8 rs9) (View.ld (Val := Elt F) x9 ro9)⟩,
    ⟨ro8, chunk v6 v8 x5 x6 (View.ld (Val := Elt F) x7 rw8) (View.ld (Val := Elt F) x8 rs8) (View.ld (Val := Elt F) x9 ro8)⟩,
    ⟨ro7, chunk v6 v8 x5 x6 (View.ld (Val := Elt F) x7 rw7) (View.ld (Val := Elt F) x8 rs7) (View.ld (Val := Elt F) x9 ro7)⟩,
    ⟨ro6, chunk v6 v8 x5 x6 (View.ld (Val := Elt F) x7 rw6) (View.ld (Val := Elt F) x8 rs6) (View.ld (Val := Elt F) x9 ro6)⟩,
    ⟨ro5, chunk v6 v8 x5 x6 (View.ld (Val := Elt F) x7 rw5) (View.ld (Val := Elt F) x8 rs5) (View.ld (Val := Elt F) x9 ro5)⟩,
    ⟨ro4, chunk v6 v8 x5 x6 (View.ld (Val := Elt F) x7 rw4) (View.ld (Val := Elt F) x8 rs4) (View.ld (Val := Elt F) x9 ro4)⟩,
    ⟨ro3, chunk v6 v8 x5 x6 (View.ld (Val := Elt F) x7 rw3) (View.ld (Val := Elt F) x8 rs3) (View.ld (Val := Elt F) x9 ro3)⟩,
    ⟨ro2, chunk v6 v8 x5 x6 (View.ld (Val := Elt F) x7 rw2) (View.ld (Val := Elt F) x8 rs2) (View.ld (Val := Elt F) x9 ro2)⟩,
    ⟨ro1, chunk v6 v8 x5 x6 (View.ld (Val := Elt F) x7 rw1) (View.ld (Val := Elt F) x8 rs1) (View.ld (Val := Elt F) x9 ro1)⟩,
    ⟨ro0, chunk v6 v8 x5 x6 (View.ld (Val := Elt F) x7 rw0) (View.ld (Val := Elt F) x8 rs0) (View.ld (Val := Elt F) x9 ro0)⟩]

/-- The eleven chunks cover the block. -/
theorem cover_chunks (p0 p1 p2 p3 p4 p5 p6 p7 p8 p9 p10 : Vec F S512x256 .bf16) (y : S512x2816.Idx) :
    ∃ pc ∈ ([⟨ro10, p10⟩, ⟨ro9, p9⟩, ⟨ro8, p8⟩, ⟨ro7, p7⟩, ⟨ro6, p6⟩, ⟨ro5, p5⟩, ⟨ro4, p4⟩, ⟨ro3, p3⟩, ⟨ro2, p2⟩, ⟨ro1, p1⟩, ⟨ro0, p0⟩] : List (View.Piece (Elt F) S512x2816 .bf16)), y ∈ pc.1.set :=
  View.cover_of_tiled [⟨ro10, p10⟩, ⟨ro9, p9⟩, ⟨ro8, p8⟩, ⟨ro7, p7⟩, ⟨ro6, p6⟩, ⟨ro5, p5⟩, ⟨ro4, p4⟩, ⟨ro3, p3⟩, ⟨ro2, p2⟩, ⟨ro1, p1⟩, ⟨ro0, p0⟩] S512x256.size (by rfl) y

variable {c : Dev nD} {i : grid0.Coords}

set_option maxHeartbeats 4000000 in
/-- At a point whose work item is real, the body leaves the output block at `stepA` of what it found. -/
theorem runA_owns (c : Dev nD) (i : grid0.Coords)
    (arg5 : Memref sig .tc .vmem S512x2816 .fp8e4m3) (harg5 : arg5.IsWhole) (arg6 : Memref sig .tc .vmem S512x1 .f32) (harg6 : arg6.IsWhole)
    (arg7 : Memref sig .tc .vmem S1x2816x2816 .fp8e4m3) (harg7 : arg7.IsWhole) (arg8 : Memref sig .tc .vmem S1x1x2816 .f32) (harg8 : arg8.IsWhole)
    (arg9 : Memref sig .tc .vmem S512x2816 .bf16) (harg9 : arg9.IsWhole)
    (x5 : Vec F S512x2816 .fp8e4m3) (x6 : Vec F S512x1 .f32) (x7 : Vec F S1x2816x2816 .fp8e4m3) (x8 : Vec F S1x1x2816 .f32) (x9 : Vec F S512x2816 .bf16)
    (xt0 : TbBuf (F := F) c tbM0) (xt1 : TbBuf (F := F) c tbM1) (xt2 : TbBuf (F := F) c tbM2) (xt3 : TbBuf (F := F) c tbM3)
    (hc : k0_cond1 (word1 c i tbM3 xt3) = 1#1) (E : Set ℕ) (K : PUnit → sProp 𝕄) :
        iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ tbPt c tbM0 xt0 ∗ tbPt c tbM1 xt1 ∗ tbPt c tbM2 xt2 ∗ tbPt c tbM3 xt3
            ∗ (iprop(owns (c : Thread nD τ) arg5 fullShare x5 ∗ owns (c : Thread nD τ) arg6 fullShare x6 ∗ owns (c : Thread nD τ) arg7 fullShare x7 ∗ owns (c : Thread nD τ) arg8 fullShare x8
                ∗ owns (c : Thread nD τ) arg9 fullShare (stepA (word2 c i tbM2 xt2) (word2 c i tbM1 xt1) x5 x6 x7 x8 x9)
                ∗ tbPt c tbM0 xt0 ∗ tbPt c tbM1 xt1 ∗ tbPt c tbM2 xt2 ∗ tbPt c tbM3 xt3) -∗ K ⟨⟩))
          ⊢ wp frame (wpE (defs₀ (F := F)) Variants.none c none) E (cc0_grouped_fp8_matmul i tbM0 htbM0 tbM1 htbM1 tbM2 htbM2 tbM3 htbM3 arg5 harg5 arg6 harg6 arg7 harg7 arg8 harg8 arg9 harg9) K := by
  have hP : (runA c i arg5 harg5 arg6 harg6 arg7 harg7 arg8 harg8 arg9 harg9 x5 x6 x7 x8 x9 xt0 xt1 xt2 xt3 hc).1
      = [⟨ro10, chunk (word2 c i tbM2 xt2) (word2 c i tbM1 xt1) x5 x6 (View.ld (Val := Elt F) x7 rw10) (View.ld (Val := Elt F) x8 rs10) (View.ld (Val := Elt F) x9 ro10)⟩,
        ⟨ro9, chunk (word2 c i tbM2 xt2) (word2 c i tbM1 xt1) x5 x6 (View.ld (Val := Elt F) x7 rw9) (View.ld (Val := Elt F) x8 rs9) (View.ld (Val := Elt F) x9 ro9)⟩,
        ⟨ro8, chunk (word2 c i tbM2 xt2) (word2 c i tbM1 xt1) x5 x6 (View.ld (Val := Elt F) x7 rw8) (View.ld (Val := Elt F) x8 rs8) (View.ld (Val := Elt F) x9 ro8)⟩,
        ⟨ro7, chunk (word2 c i tbM2 xt2) (word2 c i tbM1 xt1) x5 x6 (View.ld (Val := Elt F) x7 rw7) (View.ld (Val := Elt F) x8 rs7) (View.ld (Val := Elt F) x9 ro7)⟩,
        ⟨ro6, chunk (word2 c i tbM2 xt2) (word2 c i tbM1 xt1) x5 x6 (View.ld (Val := Elt F) x7 rw6) (View.ld (Val := Elt F) x8 rs6) (View.ld (Val := Elt F) x9 ro6)⟩,
        ⟨ro5, chunk (word2 c i tbM2 xt2) (word2 c i tbM1 xt1) x5 x6 (View.ld (Val := Elt F) x7 rw5) (View.ld (Val := Elt F) x8 rs5) (View.ld (Val := Elt F) x9 ro5)⟩,
        ⟨ro4, chunk (word2 c i tbM2 xt2) (word2 c i tbM1 xt1) x5 x6 (View.ld (Val := Elt F) x7 rw4) (View.ld (Val := Elt F) x8 rs4) (View.ld (Val := Elt F) x9 ro4)⟩,
        ⟨ro3, chunk (word2 c i tbM2 xt2) (word2 c i tbM1 xt1) x5 x6 (View.ld (Val := Elt F) x7 rw3) (View.ld (Val := Elt F) x8 rs3) (View.ld (Val := Elt F) x9 ro3)⟩,
        ⟨ro2, chunk (word2 c i tbM2 xt2) (word2 c i tbM1 xt1) x5 x6 (View.ld (Val := Elt F) x7 rw2) (View.ld (Val := Elt F) x8 rs2) (View.ld (Val := Elt F) x9 ro2)⟩,
        ⟨ro1, chunk (word2 c i tbM2 xt2) (word2 c i tbM1 xt1) x5 x6 (View.ld (Val := Elt F) x7 rw1) (View.ld (Val := Elt F) x8 rs1) (View.ld (Val := Elt F) x9 ro1)⟩,
        ⟨ro0, chunk (word2 c i tbM2 xt2) (word2 c i tbM1 xt1) x5 x6 (View.ld (Val := Elt F) x7 rw0) (View.ld (Val := Elt F) x8 rs0) (View.ld (Val := Elt F) x9 ro0)⟩] := by
    unfold runA
    dsimp only
    simp only [runA.sl.v42, runA.sl.v58, runA.sl.v74, runA.sl.v90, runA.sl.v106, runA.sl.v122, runA.sl.v138, runA.sl.v154, runA.sl.v170, runA.sl.v186, runA.sl.r_1, runA.sl.r_2,
      View.readAt_eq_ld, harg5.read_unread, harg6.read_unread, harg7.read_unread, harg8.read_unread, harg9.read_unread]
    rfl
  have hL : arg9.view.read (Elt F) (arg9.view.writes (Elt F) (harg9.unread x9) (runA c i arg5 harg5 arg6 harg6 arg7 harg7 arg8 harg8 arg9 harg9 x5 x6 x7 x8 x9 xt0 xt1 xt2 xt3 hc).1)
      = stepA (word2 c i tbM2 xt2) (word2 c i tbM1 xt1) x5 x6 x7 x8 x9 := by
    rw [hP]
    exact View.read_writes_eq_canon _ _ _ (cover_chunks _ _ _ _ _ _ _ _ _ _ _)
  refine .trans ?_ ((runA c i arg5 harg5 arg6 harg6 arg7 harg7 arg8 harg8 arg9 harg9 x5 x6 x7 x8 x9 xt0 xt1 xt2 xt3 hc).2 E K)
  iintro ⟨H5, H6, H7, H8, H9, HT0, HT1, HT2, HT3, Hk⟩
  isplitl [H5]; · iexact H5
  isplitl [H6]; · iexact H6
  isplitl [H7]; · iexact H7
  isplitl [H8]; · iexact H8
  isplitl [H9]; · iexact H9
  isplitl [HT0]; · iexact HT0
  isplitl [HT1]; · iexact HT1
  isplitl [HT2]; · iexact HT2
  isplitl [HT3]; · iexact HT3
  iintro ⟨H5, H6, H7, H8, H9, HT0, HT1, HT2, HT3⟩
  iapply Hk
  isplitl [H5]; · iexact H5
  isplitl [H6]; · iexact H6
  isplitl [H7]; · iexact H7
  isplitl [H8]; · iexact H8
  isplitl [H9]
  · unfold owns
    iexists _; isplitr
    swap; · iexact H9
    ipureintro; exact hL
  isplitl [HT0]; · iexact HT0
  isplitl [HT1]; · iexact HT1
  isplitl [HT2]; · iexact HT2
  iexact HT3

end Cert.Kernel.Hand

end
-- ==== Proof.Bits.Frame.lean ====
/- The run of the whole kernel: what the pipeline does to the windows' buffers point by point, and the launch. -/
module

public import proofs.«01_k».proof.Proof.Bits.Step

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The words of the prefetched tables at point `t`: the row the item starts at, its row tile, and whether it is real. -/
abbrev startW (hO : Ok m) (c : Dev nD) (t : Fin (cfgM m hO).N) : BitVec 32 := word2 (F := F) c (grid0.coords t) tbM2 (tbl m 2)
abbrev tileW (hO : Ok m) (c : Dev nD) (t : Fin (cfgM m hO).N) : BitVec 32 := word2 (F := F) c (grid0.coords t) tbM1 (tbl m 1)
abbrev validW (hO : Ok m) (c : Dev nD) (t : Fin (cfgM m hO).N) : BitVec 32 := word1 (F := F) c (grid0.coords t) tbM3 (tbl m 3)

/-- What the body leaves in the output block at point `t` when it found `Y` there. -/
def outAt (hO : Ok m) (c : Dev nD) (t : Fin (cfgM m hO).N) (Y : Vec F S512x2816 .bf16) : Vec F S512x2816 .bf16 :=
  if k0_cond1 (validW m hO c t) = 1#1 then
    stepA (startW m hO c t) (tileW m hO c t) (iblk m hO c 0 t) (iblk m hO c 1 t) (iblk m hO c 2 t) (iblk m hO c 3 t) Y
  else Y

/-- What the body may leave in each window's buffer: the inputs as found, the output at `outAt` of what was found. -/
def afterR (hO : Ok m) (c : Dev nD) : (w : Fin (cfgM m hO).W) → (t : Fin (cfgM m hO).N) →
    (((cfgM m hO).win w).block.Idx → Elt F ((cfgM m hO).win w).elt) → (((cfgM m hO).win w).block.Idx → Elt F ((cfgM m hO).win w).elt) → Prop
  | ⟨0, _⟩, _, Y, X => X = Y
  | ⟨1, _⟩, _, Y, X => X = Y
  | ⟨2, _⟩, _, Y, X => X = Y
  | ⟨3, _⟩, _, Y, X => X = Y
  | ⟨4, _⟩, t, Y, X => X = outAt m hO c t Y

/-- The proof data of the pipeline on core `c`. -/
def rdat (hO : Ok m) (c : Dev nD) : Pipeline.RDat τ (Elt F) Unit ℕ (UR sig nD τ) ℕ (cfgM m hO) c where
  A w := V m c (Pipeline.arrRef spec0 w)
  after := afterR m hO c
  Φ _ := iprop(Pipeline.ΦA spec0 c ∗ Pipeline.ΦT pre0 (tbl m) c)
  q _ := fullShare
  owed _ := 0

/-- An input's buffer holds its block at every point the body is handed it. -/
theorem finds_0 (hO : Ok m) (c : Dev nD) (t : Fin (cfgM m hO).N) (Y) (h : (rdat m hO c).Finds 0 t Y) : Y = iblk m hO c 0 t := by
  obtain ⟨d, rfl⟩ := (rdat m hO c).finds_in_eq_fetched 0 rfl (fun _ _ _ => rfl) (fun _ _ _ h => h) t Y h
  rfl
theorem finds_1 (hO : Ok m) (c : Dev nD) (t : Fin (cfgM m hO).N) (Y) (h : (rdat m hO c).Finds 1 t Y) : Y = iblk m hO c 1 t := by
  obtain ⟨d, rfl⟩ := (rdat m hO c).finds_in_eq_fetched 1 rfl (fun _ _ _ => rfl) (fun _ _ _ h => h) t Y h
  rfl
theorem finds_2 (hO : Ok m) (c : Dev nD) (t : Fin (cfgM m hO).N) (Y) (h : (rdat m hO c).Finds 2 t Y) : Y = iblk m hO c 2 t := by
  obtain ⟨d, rfl⟩ := (rdat m hO c).finds_in_eq_fetched 2 rfl (fun _ _ _ => rfl) (fun _ _ _ h => h) t Y h
  rfl
theorem finds_3 (hO : Ok m) (c : Dev nD) (t : Fin (cfgM m hO).N) (Y) (h : (rdat m hO c).Finds 3 t Y) : Y = iblk m hO c 3 t := by
  obtain ⟨d, rfl⟩ := (rdat m hO c).finds_in_eq_fetched 3 rfl (fun _ _ _ => rfl) (fun _ _ _ h => h) t Y h
  rfl

/-- The body's triple at point `t`, from the buffers at `y0 … y4`, the inputs at their blocks. -/
theorem sound_body (hO : Ok m) (c : Dev nD) (t : Fin (cfgM m hO).N)
    (y0 : Vec F S512x2816 .fp8e4m3) (y1 : Vec F S512x1 .f32) (y2 : Vec F S1x2816x2816 .fp8e4m3) (y3 : Vec F S1x1x2816 .f32) (y4 : Vec F S512x2816 .bf16)
    (h0 : y0 = iblk m hO c 0 t) (h1 : y1 = iblk m hO c 1 t) (h2 : y2 = iblk m hO c 2 t) (h3 : y3 = iblk m hO c 3 t) :
    iprop((rdat m hO c).Φ t.castSucc ∗ (rdat m hO c).owesAt () t.castSucc
      ∗ owns (c : Thread nD τ) (ms0 m hO t) fullShare y0 ∗ owns (c : Thread nD τ) (ms1 m hO t) fullShare y1
      ∗ owns (c : Thread nD τ) (ms2 m hO t) fullShare y2 ∗ owns (c : Thread nD τ) (ms3 m hO t) fullShare y3
      ∗ owns (c : Thread nD τ) (ms4 m hO t) fullShare y4)
    ⊢ wp frame (wpE (defs₀ (F := F)) Variants.none c none) Set.univ (bodyAt (adm m hO) t) (fun _ =>
      iprop((rdat m hO c).Φ t.succ ∗ (rdat m hO c).owesAt () t.succ
        ∗ (∃ X, ⌜X = y0⌝ ∗ owns (c : Thread nD τ) (ms0 m hO t) fullShare X) ∗ (∃ X, ⌜X = y1⌝ ∗ owns (c : Thread nD τ) (ms1 m hO t) fullShare X)
        ∗ (∃ X, ⌜X = y2⌝ ∗ owns (c : Thread nD τ) (ms2 m hO t) fullShare X) ∗ (∃ X, ⌜X = y3⌝ ∗ owns (c : Thread nD τ) (ms3 m hO t) fullShare X)
        ∗ (∃ X, ⌜X = outAt m hO c t y4⌝ ∗ owns (c : Thread nD τ) (ms4 m hO t) fullShare X))) := by
  subst h0 h1 h2 h3
  unfold bodyAt
  rw [show (rdat m hO c).Φ t.succ = (rdat m hO c).Φ t.castSucc from rfl,
    show (rdat m hO c).Φ t.castSucc = iprop(Pipeline.ΦA spec0 c ∗ Pipeline.ΦT pre0 (tbl m) c) from rfl, PhiT_eq]
  unfold Pipeline.RDat.owesAt Pipeline.owesWithin
  rw [show (rdat m hO c).owed t.castSucc = 0 from rfl, show (rdat m hO c).owed t.succ = 0 from rfl]
  iintro ⟨⟨HA, HT0, HT1, HT2, HT3⟩, ⟨%W, -, HW⟩, H0, H1, H2, H3, H4⟩
  by_cases hc : k0_cond1 (validW m hO c t) = 1#1
  · iapply (runA_owns c (grid0.coords t) _ _ _ _ _ _ _ _ _ _ (iblk m hO c 0 t) (iblk m hO c 1 t) (iblk m hO c 2 t) (iblk m hO c 3 t) y4 (tbl m 0) (tbl m 1) (tbl m 2) (tbl m 3) hc)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HT3]; · iexact HT3
    iintro ⟨H0, H1, H2, H3, H4, HT0, HT1, HT2, HT3⟩
    isplitl [HA HT0 HT1 HT2 HT3]
    · isplitl [HA]; · iexact HA
      isplitl [HT0]; · iexact HT0
      isplitl [HT1]; · iexact HT1
      isplitl [HT2]; · iexact HT2
      iexact HT3
    isplitl [HW]
    · iexists W; isplitr; · ipureintro; exact fun _ _ => Or.inl trivial
      iexact HW
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    iexists _; isplitr; · ipureintro; exact (if_pos hc).symm
    iexact H4
  · iapply (runB c (grid0.coords t) _ _ _ _ _ _ _ _ _ _ (tbl m 3) hc)
    isplitl [HT3]; · iexact HT3
    iintro HT3
    isplitl [HA HT0 HT1 HT2 HT3]
    · isplitl [HA]; · iexact HA
      isplitl [HT0]; · iexact HT0
      isplitl [HT1]; · iexact HT1
      isplitl [HT2]; · iexact HT2
      iexact HT3
    isplitl [HW]
    · iexists W; isplitr; · ipureintro; exact fun _ _ => Or.inl trivial
      iexact HW
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    iexists _; isplitr; · ipureintro; exact (if_neg hc).symm
    iexact H4

/-- The body obligation at every point. -/
theorem body_obligation (hO : Ok m) (c : Dev nD) : (rdat m hO c).BodyObligation (defs₀ (F := F)) Variants.none () Set.univ := fun t Y hY => by
  rw [bigSep_W0, bigSep_W0, defs₀_row m hO]
  exact triple_restated (sound_body m hO c t (Y 0) (Y 1) (Y 2) (Y 3) (Y 4) (finds_0 m hO c t _ (hY 0)) (finds_1 m hO c t _ (hY 1)) (finds_2 m hO c t _ (hY 2)) (finds_3 m hO c t _ (hY 3))) rfl .rfl fun _ => .rfl

theorem share_full (hO : Ok m) (c : Dev nD) (w) : (rdat m hO c).share w = fullShare := by
  unfold Pipeline.RDat.share; split <;> rfl

set_option maxHeartbeats 4000000 in
set_option backward.isDefEq.respectTransparency.types false in
/-- The launch: every output array is as the write-backs leave it, every other buffer as the pipeline found it, and every
    semaphore counter at zero. -/
theorem run_main_quiescent (hO : Ok m) : θ_run defs (onTc (τ := τ) (main (F := F))) (s₀ m ρ)
    (fun r => (Pipeline.RDat.FramePost ((Pipeline.pin pcfgs fun _ => adm m hO) 0) (fun c => rdat m hO c) (V m)) r ∧ r.2.sem = fun _ => 0) :=
  Pipeline.RDat.θ_run_frameP (Q' := _) pcfgs (fun _ => adm m hO) (0 : Fin 1) launch0 defs₀ Variants.none (rdat m hO) m ρ main
    (hbody := fun c => body_obligation m hO c) (hshare := share_full m hO)
    (howed := fun _ _ => rfl) (V := V m) (hmain := hmain m Variants.none) (hA := fun _ _ => rfl) (hpf := V_pre m) (hΦ := fun _ _ => rfl)
    (hQ' := fun _ h => h)

end Cert.Kernel.Hand

end
-- ==== Proof.Bits.Words.lean ====
/- What the host operations before the kernel leave in its tables: one equation for each step of the host program. -/
module

public import proofs.«01_k».proof.Proof.Bits.Kit
public import Idealize.ShloMosaic.Lib.Routing.Model
public import Idealize.ShloMosaic.Lib.StableHlo.RunRead

@[expose] public section

set_option maxRecDepth 16384

noncomputable section

namespace Cert.Kernel.Hand

open Cert.Kernel.Gen
open Idealize.ShloMosaic Idealize.ShloMosaic.TcCoe Idealize.ShloMosaic.Tactic
open Idealize.ShloMosaic.Routing (pyDiv)

variable {F : FTy → Type} [FloatOps F]
variable (m : (ℓ : Loc nD τ sig) → Buf (Elt F) ℓ)

/-- The integer vector a buffer of the host program holds when the pipeline is entered. -/
abbrev w_arg2 : IVec S8 32 := V m (0 : Dev nD) main_arg2
abbrev w_v0 : IVec S8 32 := V m (0 : Dev nD) main_v0
abbrev w_v1 : IVec S8 32 := V m (0 : Dev nD) main_v1
abbrev w_v2 : IVec S8 32 := V m (0 : Dev nD) main_v2
abbrev w_v5 : IVec S8 32 := V m (0 : Dev nD) main_v5
abbrev w_v11 : IVec S8 32 := V m (0 : Dev nD) main_v11
abbrev w_v12 : IVec S8 32 := V m (0 : Dev nD) main_v12
abbrev w_v14 : IVec S_ 32 := V m (0 : Dev nD) main_v14
abbrev w_v18 : IVec S31 32 := V m (0 : Dev nD) main_v18
abbrev w_v19 : IVec S31 32 := V m (0 : Dev nD) main_v19
abbrev w_v43 : IVec S31 32 := V m (0 : Dev nD) main_v43
abbrev w_v53 : IVec S31 32 := V m (0 : Dev nD) main_v53
abbrev w_v54 : IVec S31 32 := V m (0 : Dev nD) main_v54

/-- A take's index vector as it prints: a negative index counted from the end. -/
def wrapIdx (x : IVec S31 32) : IVec S31x1 32 :=
  broadcastInDim S31x1 ![0] bcast_S31_S31x1_0
    (select (cmpi .slt x (broadcastInDim S31 ![] bcast_S_S31 (constantI S_ 32 0#32)))
      (addi x (broadcastInDim S31 ![] bcast_S_S31 (constantI S_ 32 8#32))) x)

theorem eq_arg2 : w_arg2 m = m ((0 : Dev nD), (Proc.devRef .tc main_arg2 : DevRef τ sig)) := by
  unfold w_arg2 V; after_reads_simp

theorem eq_v0 : w_v0 m = Host.reduceWindow IntOp.addi ![8] ![1] ![7] ![0] (w_arg2 m) (broadcastInDim S_ ![] bcast_S_S_ (constantI S_ 32 0#32)) reduceWindows_S8_S8_w8s1p7_0 h_S_ := by
  unfold w_v0 w_arg2 V; after_reads_simp
  try simp -implicitDefEqProofs only [StableHlo.TRef.toBuf, StableHlo.TRef.ofBuf, cast_cast, cast_eq, id_eq]
  try rfl
theorem eq_v1 : w_v1 m = subi (w_v0 m) (w_arg2 m) := by
  unfold w_v0 w_v1 w_arg2 V; after_reads_simp
theorem eq_v2 : w_v2 m = pyDiv bcast_S_S8 (w_v1 m) (constantI S_ 32 512#32) := by
  unfold pyDiv w_v2 w_v1 V; after_reads_simp
  try simp -implicitDefEqProofs only [StableHlo.TRef.toBuf, StableHlo.TRef.ofBuf, cast_cast, cast_eq, id_eq]
  try rfl
theorem eq_v5 : w_v5 m = pyDiv bcast_S_S8 (subi (w_v0 m) (broadcastInDim S8 ![] bcast_S_S8 (constantI S_ 32 1#32))) (constantI S_ 32 512#32) := by
  unfold pyDiv w_v5 w_v0 V; after_reads_simp
  try simp -implicitDefEqProofs only [StableHlo.TRef.toBuf, StableHlo.TRef.ofBuf, cast_cast, cast_eq, id_eq]
  try rfl
theorem eq_v11 : w_v11 m = select (cmpi .sgt (w_arg2 m) (broadcastInDim S8 ![] bcast_S_S8 (constantI S_ 32 0#32)))
    (addi (subi (w_v5 m) (w_v2 m)) (broadcastInDim S8 ![] bcast_S_S8 (constantI S_ 32 1#32)))
    (broadcastInDim S8 ![] bcast_S_S8 (constantI S_ 32 0#32)) := by
  unfold w_v11 w_v5 w_v2 w_arg2 V; after_reads_simp; rfl
theorem eq_v12 : w_v12 m = Host.reduceWindow IntOp.addi ![8] ![1] ![7] ![0] (w_v11 m) (broadcastInDim S_ ![] bcast_S_S_ (constantI S_ 32 0#32)) reduceWindows_S8_S8_w8s1p7_0 h_S_ := by
  unfold w_v12 w_v11 V; after_reads_simp
  try simp -implicitDefEqProofs only [StableHlo.TRef.toBuf, StableHlo.TRef.ofBuf, cast_cast, cast_eq, id_eq]
  try rfl
theorem eq_v14 : w_v14 m = shapeCast S_ (extractStridedSlice S1 ![7] (w_v12 m) slices_S8_S1_7) shapeCasts_S1_S_ := by
  unfold w_v14 w_v12 V; after_reads_simp; rfl
theorem eq_v18 : w_v18 m = minsi (iotaInDim S31 32 0) (broadcastInDim S31 ![] bcast_S_S31 (subi (w_v14 m) (constantI S_ 32 1#32))) := by
  unfold w_v18 w_v14 V; after_reads_simp
theorem eq_v19 : w_v19 m = Host.reduce IntOp.addi (extui 32
    (cmpi .sle (broadcastInDim S8x31 ![0, 1] bcast_S8x1_S8x31_0_1 (broadcastInDim S8x1 ![0] bcast_S8_S8x1_0 (w_v12 m)))
      (broadcastInDim S8x31 ![0, 1] bcast_S1x31_S8x31_0_1 (broadcastInDim S1x31 ![1] bcast_S31_S1x31_1 (w_v18 m)))) natLt_1_32)
    (constantI S_ 32 0#32) reducesTo_S8x31_S31_d0 h_S_ := by
  unfold w_v19 w_v12 w_v18 V; after_reads_simp
  try simp -implicitDefEqProofs only [StableHlo.TRef.toBuf, StableHlo.TRef.ofBuf, cast_cast, cast_eq, id_eq]
  try rfl
set_option maxHeartbeats 4000000 in
theorem eq_v43 : w_v43 m = subi (addi (Host.gather gather_S8_S31x1_S31_n_0_n_n_0_1_1 (w_v2 m) (wrapIdx (w_v19 m))) (w_v18 m))
    (subi (Host.gather gather_S8_S31x1_S31_n_0_n_n_0_1_1 (w_v12 m) (wrapIdx (w_v19 m))) (Host.gather gather_S8_S31x1_S31_n_0_n_n_0_1_1 (w_v11 m) (wrapIdx (w_v19 m)))) := by
  unfold wrapIdx w_v43 w_v2 w_v19 w_v18 w_v12 w_v11 V; after_reads_simp
theorem eq_v53 : w_v53 m = Host.gather gather_S8_S31x1_S31_n_0_n_n_0_1_1 (w_v1 m) (wrapIdx (w_v19 m)) := by
  unfold wrapIdx w_v53 w_v1 w_v19 V; after_reads_simp
theorem eq_v54 : w_v54 m = extui 32 (cmpi .slt (iotaInDim S31 32 0) (broadcastInDim S31 ![] bcast_S_S31 (w_v14 m))) natLt_1_32 := by
  unfold w_v54 w_v14 V; after_reads_simp

end Cert.Kernel.Hand

end
-- ==== Proof.Plan.lean ====
/- The work plan of the grouped matrix product, over natural numbers: eight groups of consecutive rows, the row tiles of 512
   rows each group touches, and the list of (tile, group) items the kernel walks. -/
module

public import Mathlib.Data.Nat.Count
public import Mathlib.Tactic.Ring
public import Mathlib.Tactic.Linarith

@[expose] public section

namespace Ragged

/-- Of a nondecreasing sequence, the first `count` entries are those at most `x`. -/
theorem lt_count_iff (f : ℕ → ℕ) (hf : Monotone f) (x n : ℕ) :
    Nat.count (fun g => f g ≤ x) n ≤ n ∧ ∀ g < n, (f g ≤ x ↔ g < Nat.count (fun g => f g ≤ x) n) := by
  induction n with
  | zero => exact ⟨by simp, fun g hg => absurd hg (Nat.not_lt_zero _)⟩
  | succ n ih =>
    obtain ⟨h1, h2⟩ := ih
    rw [Nat.count_succ]
    by_cases h : f n ≤ x
    · rw [if_pos h]
      have hn : Nat.count (fun g => f g ≤ x) n = n := by
        rcases Nat.eq_zero_or_pos n with h0 | h0
        · subst h0; simp
        · have := (h2 (n - 1) (by omega)).1 ((hf (by omega)).trans h); omega
      rw [hn]
      exact ⟨le_rfl, fun g hg => ⟨fun _ => hg, fun _ => (hf (by omega)).trans h⟩⟩
    · rw [if_neg h]
      refine ⟨by omega, fun g hg => ?_⟩
      rcases Nat.lt_succ_iff_lt_or_eq.1 hg with h' | h'
      · simpa using h2 g h'
      · subst h'; exact ⟨fun q => absurd q h, fun q => by omega⟩

variable (s : ℕ → ℕ)

/-- Sums of the first `g` entries. -/
def pre : ℕ → ℕ
  | 0 => 0
  | g + 1 => pre g + s g

theorem pre_mono : Monotone (pre s) := monotone_nat_of_le_succ fun g => Nat.le_add_right _ _

theorem sum_range (g : ℕ) : ((List.range g).map s).sum = pre s g := by
  induction g with
  | zero => rfl
  | succ g ih => rw [List.range_succ, List.map_append, List.sum_append, ih]; simp [pre]

/-- The first and last row tile group `g` touches (if it has rows), and how many it touches. -/
def first (g : ℕ) : ℕ := pre s g / 512
def last (g : ℕ) : ℕ := (pre s (g + 1) - 1) / 512
def tiles (g : ℕ) : ℕ := if 0 < s g then last s g - first s g + 1 else 0
/-- How many work items there are. -/
def total : ℕ := pre (tiles s) 8
/-- The work item grid point `j` handles: the points past the last item stay on it. -/
def item (j : ℕ) : ℕ := min j (total s - 1)
/-- The group, row tile and validity of grid point `j`. -/
def expert (j : ℕ) : ℕ := Nat.count (fun g => pre (tiles s) (g + 1) ≤ item s j) 8
def tile (j : ℕ) : ℕ := first s (expert s j) + item s j - pre (tiles s) (expert s j)
def valid (j : ℕ) : ℕ := if j < total s then 1 else 0
/-- The group of row `r`. -/
def gid (r : ℕ) : ℕ := Nat.count (fun g => pre s (g + 1) ≤ r) 8

theorem first_le_last {g : ℕ} (h : 0 < s g) : first s g ≤ last s g := by
  have : pre s (g + 1) = pre s g + s g := rfl
  unfold first last; omega

theorem items_bound (g : ℕ) : (pre s g = 0 ∧ pre (tiles s) g = 0)
    ∨ (0 < pre s g ∧ 0 < pre (tiles s) g ∧ pre (tiles s) g ≤ (pre s g - 1) / 512 + g) := by
  induction g with
  | zero => exact Or.inl ⟨rfl, rfl⟩
  | succ g ih =>
    have h1 : pre s (g + 1) = pre s g + s g := rfl
    have h2 : pre (tiles s) (g + 1) = pre (tiles s) g + tiles s g := rfl
    by_cases h : 0 < s g
    · have h3 : tiles s g = last s g - first s g + 1 := if_pos h
      have h4 := first_le_last s h
      unfold first last at h3 h4
      rcases ih with ⟨a, b⟩ | ⟨a, b, c⟩ <;> right <;> refine ⟨by omega, by omega, ?_⟩ <;> omega
    · have h3 : tiles s g = 0 := if_neg h
      rcases ih with ⟨a, b⟩ | ⟨a, b, c⟩
      · left; omega
      · right
        have : s g = 0 := by omega
        rw [h1, h2, h3, this]; omega

/-- Groups whose items end at the same place end at the same row. -/
theorem pre_eq_of_items {a b : ℕ} (hab : a ≤ b) (h : pre (tiles s) a = pre (tiles s) b) : pre s a = pre s b := by
  obtain ⟨d, rfl⟩ := Nat.exists_eq_add_of_le hab
  induction d with
  | zero => rfl
  | succ d ih =>
    have h2 : pre (tiles s) (a + d + 1) = pre (tiles s) (a + d) + tiles s (a + d) := rfl
    have h1 : pre s (a + d + 1) = pre s (a + d) + s (a + d) := rfl
    have hm := pre_mono (tiles s) (show a ≤ a + d by omega)
    have h' : pre (tiles s) a = pre (tiles s) (a + (d + 1)) := h
    have h0 : tiles s (a + d) = 0 := by
      rw [show a + (d + 1) = a + d + 1 from rfl] at h'; omega
    have hs : s (a + d) = 0 := by
      by_contra hn
      have : tiles s (a + d) = last s (a + d) - first s (a + d) + 1 := if_pos (Nat.pos_of_ne_zero hn)
      omega
    rw [show a + (d + 1) = a + d + 1 from rfl] at h' ⊢
    rw [ih (by omega) (by omega)]; omega

section
variable {s} (hs : pre s 8 = 12288)
include hs

theorem total_pos : 0 < total s := by
  rcases items_bound s 8 with ⟨a, b⟩ | ⟨a, b, c⟩
  · omega
  · exact b
theorem total_le : total s ≤ 31 := by
  rcases items_bound s 8 with ⟨a, b⟩ | ⟨a, b, c⟩
  · omega
  · unfold total; omega

theorem item_lt (j : ℕ) : item s j < total s := by
  have := total_pos hs; unfold item; omega

theorem expert_spec (j : ℕ) : expert s j < 8 ∧ pre (tiles s) (expert s j) ≤ item s j ∧ item s j < pre (tiles s) (expert s j + 1) := by
  have hc := lt_count_iff (fun g => pre (tiles s) (g + 1)) (fun a b h => pre_mono _ (by omega)) (item s j) 8
  have hi := item_lt hs j
  obtain ⟨h1, h2⟩ := hc
  change expert s j ≤ 8 at h1
  change ∀ g < 8, (pre (tiles s) (g + 1) ≤ item s j ↔ g < expert s j) at h2
  have h7 := h2 7 (by omega)
  have ht : pre (tiles s) (7 + 1) = total s := rfl
  have h8 : expert s j < 8 := by omega
  refine ⟨h8, ?_, ?_⟩
  · rcases Nat.eq_zero_or_pos (expert s j) with h0 | h0
    · rw [h0]; exact Nat.zero_le _
    · have := (h2 (expert s j - 1) (by omega)).2 (by omega)
      rwa [Nat.sub_add_cancel h0] at this
  · have := h2 (expert s j) h8
    omega

/-- The group of a grid point has rows, and its tile is one the group touches. -/
theorem tile_spec (j : ℕ) : 0 < s (expert s j) ∧ first s (expert s j) ≤ last s (expert s j)
    ∧ pre (tiles s) (expert s j + 1) = pre (tiles s) (expert s j) + (last s (expert s j) - first s (expert s j) + 1)
    ∧ tile s j = first s (expert s j) + (item s j - pre (tiles s) (expert s j)) ∧ tile s j ≤ last s (expert s j) := by
  obtain ⟨h1, h2, h3⟩ := expert_spec hs j
  have h4 : pre (tiles s) (expert s j + 1) = pre (tiles s) (expert s j) + tiles s (expert s j) := rfl
  have hp : 0 < s (expert s j) := by
    by_contra hn
    have : tiles s (expert s j) = 0 := if_neg hn
    omega
  have h5 : tiles s (expert s j) = last s (expert s j) - first s (expert s j) + 1 := if_pos hp
  have h6 := first_le_last s hp
  have h7 : tile s j = first s (expert s j) + (item s j - pre (tiles s) (expert s j)) := by unfold tile; omega
  refine ⟨hp, h6, by omega, h7, by omega⟩

theorem expert_lt (j : ℕ) : expert s j < 8 := (expert_spec hs j).1

theorem pre_le (g : ℕ) (hg : g ≤ 8) : pre s g ≤ 12288 := hs ▸ pre_mono s hg

theorem tile_lt (j : ℕ) : tile s j < 24 := by
  obtain ⟨h1, h2, h3, h4, h5⟩ := tile_spec hs j
  have h6 := pre_le hs (expert s j + 1) (expert_lt hs j)
  unfold last at h5; omega

/-- The first grid point handles the first tile, from row 0 on. -/
theorem at_zero : tile s 0 = 0 ∧ pre s (expert s 0) = 0 ∧ 0 < total s := by
  obtain ⟨h1, h2, h3⟩ := expert_spec hs 0
  obtain ⟨h4, h5, h6, h7, h8⟩ := tile_spec hs 0
  have hi : item s 0 = 0 := by unfold item; omega
  have he := pre_eq_of_items s (Nat.zero_le (expert s 0)) (show pre (tiles s) 0 = _ by show 0 = _; omega)
  have hp : pre s (expert s 0) = 0 := he.symm
  refine ⟨?_, hp, total_pos hs⟩
  rw [h7, first, hp]; omega

/-- The last grid point handles the last tile, up to the last row. -/
theorem at_last : tile s 30 = 23 ∧ pre s (expert s 30 + 1) = 12288 := by
  obtain ⟨h1, h2, h3⟩ := expert_spec hs 30
  obtain ⟨h4, h5, h6, h7, h8⟩ := tile_spec hs 30
  have hl := total_le hs
  have ht := total_pos hs
  have hi : item s 30 = total s - 1 := by unfold item; omega
  have hm : pre (tiles s) (expert s 30 + 1) ≤ total s := pre_mono (tiles s) (by omega)
  have he := pre_eq_of_items s (show expert s 30 + 1 ≤ 8 by omega) (show _ = total s by omega)
  rw [hs] at he
  have hl : last s (expert s 30) = 23 := by unfold last; rw [he]
  exact ⟨by omega, he⟩

/-- From one grid point to the next: past the last item nothing moves; else the next item stays on the tile and starts at the
    row the previous one ended, or moves to the next tile, the previous item having reached the tile's end and the next one
    starting no later than its tile does. -/
theorem step (j : ℕ) : (total s ≤ j + 1 ∧ tile s (j + 1) = tile s j ∧ expert s (j + 1) = expert s j)
    ∨ (j + 1 < total s ∧ tile s (j + 1) = tile s j ∧ pre s (expert s (j + 1)) = pre s (expert s j + 1))
    ∨ (j + 1 < total s ∧ tile s (j + 1) = tile s j + 1 ∧ 512 * (tile s j + 1) ≤ pre s (expert s j + 1) ∧ pre s (expert s (j + 1)) ≤ 512 * tile s (j + 1)) := by
  by_cases hj : total s ≤ j + 1
  · left
    have hi : item s (j + 1) = item s j := by have := total_pos hs; unfold item; omega
    have he : expert s (j + 1) = expert s j := by unfold expert; rw [hi]
    exact ⟨hj, by unfold tile; rw [he, hi], he⟩
  · right
    have i0 : item s j = j := by unfold item; omega
    have i1 : item s (j + 1) = j + 1 := by unfold item; omega
    obtain ⟨a1, a2, a3⟩ := expert_spec hs j
    obtain ⟨a4, a5, a6, a7, a8⟩ := tile_spec hs j
    obtain ⟨b1, b2, b3⟩ := expert_spec hs (j + 1)
    obtain ⟨b4, b5, b6, b7, b8⟩ := tile_spec hs (j + 1)
    rw [i0] at a2 a3 a7
    rw [i1] at b2 b3 b7
    rcases Nat.lt_trichotomy (expert s (j + 1)) (expert s j) with hlt | heq | hgt
    · have := pre_mono (tiles s) (show expert s (j + 1) + 1 ≤ expert s j by omega); omega
    · right
      rw [heq] at b7 b8 ⊢
      have h1 : tile s (j + 1) = tile s j + 1 := by omega
      refine ⟨by omega, h1, ?_, ?_⟩
      · unfold last at b8; omega
      · rw [h1]; unfold first at a7; omega
    · have hm := pre_mono (tiles s) (show expert s j + 1 ≤ expert s (j + 1) by omega)
      have hp := pre_eq_of_items s (show expert s j + 1 ≤ expert s (j + 1) by omega) (by omega)
      have ht : tile s j = last s (expert s j) := by omega
      have ht1 : tile s (j + 1) = first s (expert s (j + 1)) := by omega
      unfold last at ht; unfold first at ht1
      rw [← hp] at ht1 ⊢
      have hpos : 0 < pre s (expert s j + 1) := by
        have : pre s (expert s j + 1) = pre s (expert s j) + s (expert s j) := rfl
        omega
      by_cases hd : tile s (j + 1) = tile s j
      · exact Or.inl ⟨by omega, hd, rfl⟩
      · exact Or.inr ⟨by omega, by omega, by omega, by omega⟩

end

/-- A row between a group's first and last belongs to the group. -/
theorem gid_eq {e r : ℕ} (he : e < 8) (h1 : pre s e ≤ r) (h2 : r < pre s (e + 1)) : gid s r = e := by
  obtain ⟨c1, c2⟩ := lt_count_iff (fun g => pre s (g + 1)) (fun a b h => pre_mono _ (by omega)) r 8
  change gid s r ≤ 8 at c1
  change ∀ g < 8, (pre s (g + 1) ≤ r ↔ g < gid s r) at c2
  have := c2 e he
  rcases Nat.eq_zero_or_pos e with h0 | h0
  · omega
  · have h3 := c2 (e - 1) (by omega)
    rw [Nat.sub_add_cancel h0] at h3
    omega

/-- Every tile is some grid point's last: one the next point leaves, or the last point's. -/
theorem exists_last (hs : pre s 8 = 12288) (t : ℕ) (ht : t < 24) : ∃ j, j < 31 ∧ tile s j = t ∧ (j = 30 ∨ tile s (j + 1) ≠ tile s j) := by
  by_contra hno
  push Not at hno
  have key : ∀ j, j < 31 → tile s j ≤ t := by
    intro j
    induction j with
    | zero => intro _; rw [(at_zero hs).1]; exact Nat.zero_le _
    | succ j ih =>
      intro hj
      have h1 := ih (by omega)
      rcases step hs j with ⟨_, h, _⟩ | ⟨_, h, _⟩ | ⟨_, h, _⟩
      · omega
      · omega
      · by_cases hq : tile s j = t
        · exact absurd ((hno j (by omega) hq).2) (by omega)
        · omega
  have h30 := key 30 (by omega)
  rw [(at_last hs).1] at h30
  exact (hno 30 (by omega) (by rw [(at_last hs).1]; omega)).1 rfl

end Ragged

end
-- ==== Proof.Bits.Tables.lean ====
/- The kernel's tables, read as natural numbers of the work plan (Proof/Plan.lean). -/
module

public import proofs.«01_k».proof.Proof.Bits.Words
public import proofs.«01_k».proof.Proof.Plan
public import Idealize.ShloMosaic.Lib.Routing.Words
public import Idealize.ShloMosaic.Lib.Routing.OpsSearch
public import Idealize.ShloMosaic.Lib.Routing.OpsPair
public import Idealize.ShloMosaic.Lib.StableHlo.Predicate

@[expose] public section

set_option maxRecDepth 16384

noncomputable section

namespace Cert.Kernel.Hand

open Cert.Kernel.Gen
open Idealize.ShloMosaic Idealize.ShloMosaic.TcCoe Idealize.ShloMosaic.Tactic Idealize.ShloMosaic.ValueIdx
open Idealize.ShloMosaic.Routing
open Idealize.ShloMosaic.StableHlo.Predicate
open Ragged

variable {F : FTy → Type} [FloatOps F]
variable (m : (ℓ : Loc nD τ sig) → Buf (Elt F) ℓ)

/-- The group sizes the launch memory holds are `s`, and they add up to the number of rows. -/
structure Sizes (s : ℕ → ℕ) : Prop where
  at_ : ∀ g : Fin 8, w_arg2 m (ix1 g) = BitVec.ofNat 32 (s g.val)
  sum_ : pre s 8 = 12288

theorem ofNat_sub {a b : ℕ} (h : b ≤ a) : BitVec.ofNat 32 a - BitVec.ofNat 32 b = BitVec.ofNat 32 (a - b) := by
  apply BitVec.eq_of_toNat_eq
  rw [BitVec.toNat_sub, BitVec.toNat_ofNat, BitVec.toNat_ofNat, BitVec.toNat_ofNat]
  omega
theorem ofNat_add (a b : ℕ) : BitVec.ofNat 32 a + BitVec.ofNat 32 b = BitVec.ofNat 32 (a + b) := by
  apply BitVec.eq_of_toNat_eq
  rw [BitVec.toNat_add, BitVec.toNat_ofNat, BitVec.toNat_ofNat, BitVec.toNat_ofNat]
  omega
theorem toNat_of_lt {a : ℕ} (h : a < 2 ^ 31) : (BitVec.ofNat 32 a).toNat = a := by
  rw [BitVec.toNat_ofNat]; omega

variable {m} {s : ℕ → ℕ} (H : Sizes m s)
include H

theorem pre_bound {g : ℕ} (hg : g ≤ 8) : pre s g ≤ 12288 := pre_le H.sum_ g hg
theorem items_le {g : ℕ} (hg : g ≤ 8) : pre (tiles s) g ≤ 31 := (pre_mono _ hg).trans (total_le H.sum_)

theorem v0_at (g : Fin 8) : w_v0 m (ix1 g) = BitVec.ofNat 32 (pre s (g.val + 1)) := by
  rw [eq_v0, ← sum_range]
  exact cumsum1 rfl _ s H.at_ _ rfl _ _ g

theorem v1_at (g : Fin 8) : w_v1 m (ix1 g) = BitVec.ofNat 32 (pre s g.val) := by
  rw [eq_v1, subi_ap, v0_at H, H.at_, ofNat_sub (by show _ ≤ pre s g.val + s g.val; omega)]
  congr 1; show pre s g.val + s g.val - _ = _; omega

theorem v2_at (g : Fin 8) : w_v2 m (ix1 g) = BitVec.ofNat 32 (first s g.val) := by
  have := pre_bound H (show g.val ≤ 8 by omega)
  rw [eq_v2]
  exact pyDiv_ap _ _ _ _ (v1_at H g) rfl (by omega) (by decide) (by decide)

theorem v5_at (g : Fin 8) (hg : 0 < s g.val) : w_v5 m (ix1 g) = BitVec.ofNat 32 (last s g.val) := by
  have := pre_bound H (show g.val + 1 ≤ 8 by omega)
  rw [eq_v5]
  refine pyDiv_ap _ _ _ _ (a := pre s (g.val + 1) - 1) ?_ rfl (by omega) (by decide) (by decide)
  rw [subi_ap, v0_at H, bc0]
  exact ofNat_sub (show 1 ≤ pre s g.val + s g.val by omega)

theorem v11_at (g : Fin 8) : w_v11 m (ix1 g) = BitVec.ofNat 32 (tiles s g.val) := by
  have h1 := pre_bound H (show g.val + 1 ≤ 8 by omega)
  have h2 : s g.val ≤ pre s (g.val + 1) := by show _ ≤ pre s g.val + s g.val; omega
  rw [eq_v11]
  change Scalar.select (IntOp.cmpi .sgt (w_arg2 m (ix1 g)) 0#32) (w_v5 m (ix1 g) - w_v2 m (ix1 g) + 1#32) 0#32 = _
  rw [H.at_ g]
  have hc : IntOp.cmpi .sgt (BitVec.ofNat 32 (s g.val)) 0#32 = 1#1 ↔ 0 < s g.val := by
    rw [sgt_iff_toNat (by rw [toNat_of_lt (by omega)]; omega) (by decide), show (BitVec.ofNat 32 (s g.val)).toNat = s g.val from toNat_of_lt (by omega)]
    exact Iff.rfl
  by_cases hg : 0 < s g.val
  · have : tiles s g.val = last s g.val - first s g.val + 1 := if_pos hg
    rw [hc.2 hg, this, v5_at H g hg, v2_at H g, ofNat_sub (first_le_last s hg)]
    exact ofNat_add _ _
  · have : tiles s g.val = 0 := if_neg hg
    rw [this]
    unfold Scalar.select
    exact if_neg (fun q => hg (hc.1 q))

theorem v12_at (g : Fin 8) : w_v12 m (ix1 g) = BitVec.ofNat 32 (pre (tiles s) (g.val + 1)) := by
  rw [eq_v12, ← sum_range]
  exact cumsum1 rfl _ (tiles s) (v11_at H) _ rfl _ _ g

theorem v14_at (i : S_.Idx) : w_v14 m i = BitVec.ofNat 32 (total s) := by
  rw [eq_v14]
  refine (shapeCast_apply _ _ _ (ix1 (0 : Fin 1)) ?_).trans ?_
  · have h1 : (S_.rowMajor i).val < 1 := (S_.rowMajor i).isLt
    rw [Shape.rowMajor_val_one]; show (0 : ℕ) = _; omega
  · rw [slice1 7 _ _ (0 : Fin 1) (by decide)]
    exact v12_at H ⟨7, by decide⟩

theorem v18_at (p : Fin 31) : w_v18 m (ix1 p) = BitVec.ofNat 32 (item s p.val) := by
  have h1 := total_le H.sum_
  have h0 := total_pos H.sum_
  have hp := p.isLt
  rw [eq_v18]
  change IntOp.minsi (BitVec.ofNat 32 p.val) (broadcastInDim S31 ![] bcast_S_S31 (subi (w_v14 m) (constantI S_ 32 1#32)) (ix1 p)) = _
  rw [bc0, subi_ap, v14_at H]
  change IntOp.minsi (BitVec.ofNat 32 p.val) (BitVec.ofNat 32 (total s) - BitVec.ofNat 32 1) = _
  rw [ofNat_sub h0]
  unfold IntOp.minsi item
  rw [slt_ofNat32 (show p.val < 2 ^ 31 by omega) (show total s - 1 < 2 ^ 31 by omega)]
  by_cases h : p.val < total s - 1
  · rw [if_pos (decide_eq_true h), Nat.min_eq_left (by omega)]
  · rw [if_neg (by rw [decide_eq_false h]; decide), Nat.min_eq_right (by omega)]

theorem v19_at (p : Fin 31) : w_v19 m (ix1 p) = BitVec.ofNat 32 (expert s p.val) := by
  rw [eq_v19]
  apply BitVec.eq_of_toNat_eq
  have h8 := expert_lt H.sum_ p.val
  have hi := item_lt H.sum_ p.val
  have ht := total_le H.sum_
  rw [toNat_reduce_count_rows (by decide) _ natLt_1_32 reducesTo_S8x31_S31_d0 h_S_ (ix1 p), toNat_of_lt (by omega)]
  unfold expert
  rw [← card_filter_fin 8]
  refine congrArg Finset.card (Finset.filter_congr fun q _ => ?_)
  have hq := items_le H (show q.val + 1 ≤ 8 by omega)
  change IntOp.cmpi .sle (broadcastInDim S8x31 ![0, 1] bcast_S8x1_S8x31_0_1 (broadcastInDim S8x1 ![0] bcast_S8_S8x1_0 (w_v12 m)) (ij q p))
    (broadcastInDim S8x31 ![0, 1] bcast_S1x31_S8x31_0_1 (broadcastInDim S1x31 ![1] bcast_S31_S1x31_1 (w_v18 m)) (ij q p)) = 1#1 ↔ _
  rw [bcast_rows, bcast_cols, ofFin_eq_ix1, ofFin_eq_ix1, v12_at H, v18_at H,
    sle_iff_toNat (by rw [toNat_of_lt (by omega)]; omega) (by rw [toNat_of_lt (by omega)]; omega), toNat_of_lt (by omega), toNat_of_lt (by omega)]

theorem wrap_at (p : Fin 31) : wrapIdx (w_v19 m) (ix2 p (0 : Fin 1)) = BitVec.ofNat 32 (expert s p.val) := by
  have h8 := expert_lt H.sum_ p.val
  unfold wrapIdx
  rw [bcCol]
  change Scalar.select (IntOp.cmpi .slt (w_v19 m (ix1 p)) (broadcastInDim S31 ![] bcast_S_S31 (constantI S_ 32 0#32) (ix1 p)))
    (w_v19 m (ix1 p) + broadcastInDim S31 ![] bcast_S_S31 (constantI S_ 32 8#32) (ix1 p)) (w_v19 m (ix1 p)) = _
  rw [bc0, v19_at H]
  exact wrap_of_lt _ _ (by rw [toNat_of_lt (by omega)]; omega)

/-- A take by the item's group reads the entry of that group. -/
theorem take_at (x : IVec S8 32) (p : Fin 31) : Host.gather gather_S8_S31x1_S31_n_0_n_n_0_1_1 x (wrapIdx (w_v19 m)) (ix1 p) = x (ix1 ⟨expert s p.val, expert_lt H.sum_ p.val⟩) :=
  take_ap gather_S8_S31x1_S31_n_0_n_n_0_1_1 rfl rfl rfl rfl x _ p (expert_lt H.sum_ p.val) (by have := expert_lt H.sum_ p.val; omega) (wrap_at H p)

theorem v43_at (p : Fin 31) : w_v43 m (ix1 p) = BitVec.ofNat 32 (tile s p.val) := by
  obtain ⟨h1, h2, h3⟩ := expert_spec H.sum_ p.val
  rw [eq_v43, subi_ap, addi_ap, subi_ap, take_at H, take_at H, take_at H, v2_at H, v12_at H, v11_at H, v18_at H]
  have h4 : pre (tiles s) (expert s p.val + 1) = pre (tiles s) (expert s p.val) + tiles s (expert s p.val) := rfl
  rw [ofNat_add, ofNat_sub (show tiles s (expert s p.val) ≤ pre (tiles s) (expert s p.val + 1) by omega),
    show pre (tiles s) (expert s p.val + 1) - tiles s (expert s p.val) = pre (tiles s) (expert s p.val) by omega, ofNat_sub (by omega)]
  rfl

theorem v53_at (p : Fin 31) : w_v53 m (ix1 p) = BitVec.ofNat 32 (pre s (expert s p.val)) := by
  rw [eq_v53, take_at H, v1_at H]

theorem v54_at (p : Fin 31) : w_v54 m (ix1 p) = BitVec.ofNat 32 (valid s p.val) := by
  have ht := total_le H.sum_
  have hp := p.isLt
  rw [eq_v54]
  change (IntOp.cmpi .slt (BitVec.ofNat 32 p.val) (broadcastInDim S31 ![] bcast_S_S31 (w_v14 m) (ix1 p))).setWidth 32 = _
  rw [bc0, v14_at H]
  unfold IntOp.cmpi
  dsimp only
  rw [slt_ofNat32 (show p.val < 2 ^ 31 by omega) (show total s < 2 ^ 31 by omega)]
  exact setWidth_ofBool _

end Cert.Kernel.Hand

end
-- ==== Proof.Bits.Ok.lean ====
/- The kernel's side condition on its tables, proved from the group sizes; the group sizes, read off the precondition. -/
module

public import proofs.«01_k».proof.Proof.Bits.Frame
public import proofs.«01_k».proof.Proof.Bits.Tables
public import proofs.«01_k».proof.Pre_sizes_fit
public import Idealize.ShloMosaic.Lib.ReduceAll
public import Idealize.ShloMosaic.Lib.PairWhole

@[expose] public section

set_option maxRecDepth 16384

noncomputable section

namespace Cert.Kernel.Hand

open Cert.Kernel.Gen
open Idealize.ShloMosaic Idealize.ShloMosaic.TcCoe Idealize.ShloMosaic.Tactic Idealize.ShloMosaic.ValueIdx
open Idealize.ShloMosaic.Routing
open Idealize.ShloMosaic.StableHlo.Predicate
open Ragged

variable {F : FTy → Type} [FloatOps F]
variable (m : (ℓ : Loc nD τ sig) → Buf (Elt F) ℓ)

/-- The grid's one coordinate, as a number below 31. -/
abbrev pt (i : grid0.Coords) : Fin 31 := ⟨(i 0).val, (i 0).isLt⟩

/-- The single element a unit rectangle of a table names, at the point's own offset. -/
theorem point_eq (i : grid0.Coords) (h : ∀ a, (k0_off1 i) a + S1.size a ≤ S31.size a) (hz : 0 < (Rect.unit (s := S31) (k0_off1 i) S1.size h).shape.numel) :
    (Rect.unit (s := S31) (k0_off1 i) S1.size h).emb (Shape.Idx.first hz) = (ix1 (pt i) : S31.Idx) := by
  funext a
  match a with
  | ⟨0, _⟩ =>
    apply Fin.ext
    have hi : (i 0).val < 31 := (i 0).isLt
    show (k0_off1 i) 0 + 1 * 0 = (i 0).val
    show (BitVec.ofNat 32 (i 0).val).toNat + 1 * 0 = (i 0).val
    rw [BitVec.toNat_ofNat]; omega

theorem tileW_eq (hO : Ok m) (c : Dev nD) (t : Fin (cfgM m hO).N) : tileW m hO c t = w_v43 m (ix1 (pt (grid0.coords t))) :=
  congrArg (w_v43 m) (point_eq (grid0.coords t) _ _)
theorem startW_eq (hO : Ok m) (c : Dev nD) (t : Fin (cfgM m hO).N) : startW m hO c t = w_v53 m (ix1 (pt (grid0.coords t))) :=
  congrArg (w_v53 m) (point_eq (grid0.coords t) _ _)
theorem validW_eq (hO : Ok m) (c : Dev nD) (t : Fin (cfgM m hO).N) : validW m hO c t = w_v54 m (ix1 (pt (grid0.coords t))) :=
  congrArg (w_v54 m) (point_eq (grid0.coords t) _ _)

theorem at_expert (i : grid0.Coords) : ((tbl m).at 0 (Rect.unit (s := S31) ![(Scalar.indexCast (BitVec.ofNat 32 (i 0).val) : Index).toNat] S1.size (k0_off1_inb i)) numel1_S1 : BitVec 32) = w_v19 m (ix1 (pt i)) :=
  congrArg (w_v19 m) (point_eq i _ _)
theorem at_tile (i : grid0.Coords) : ((tbl m).at 1 (Rect.unit (s := S31) ![(Scalar.indexCast (BitVec.ofNat 32 (i 0).val) : Index).toNat] S1.size (k0_off1_inb i)) numel1_S1 : BitVec 32) = w_v43 m (ix1 (pt i)) :=
  congrArg (w_v43 m) (point_eq i _ _)

variable {m} {s : ℕ → ℕ} (H : Sizes m s)
include H

theorem tile_bound (i : grid0.Coords) : tile s (i 0).val < 24 := tile_lt H.sum_ _
theorem expert_bound (i : grid0.Coords) : expert s (i 0).val < 8 := expert_lt H.sum_ _

theorem ix_0 (i : grid0.Coords) : cc0_transform_0 (F := F) k0_off1_inb numel1_S1 (tbl m) i = ![tile s (i 0).val, 0] := by
  unfold cc0_transform_0
  dsimp only
  rw [at_tile, v43_at H, toNat_of_lt (by have := tile_bound H i; show tile s (i 0).val < _; omega)]
  rfl
theorem ix_1 (i : grid0.Coords) : cc0_transform_1 (F := F) k0_off1_inb numel1_S1 (tbl m) i = ![tile s (i 0).val, 0] := ix_0 H i
theorem ix_4 (i : grid0.Coords) : cc0_transform_4 (F := F) k0_off1_inb numel1_S1 (tbl m) i = ![tile s (i 0).val, 0] := ix_0 H i
theorem ix_2 (i : grid0.Coords) : cc0_transform_2 (F := F) k0_off1_inb numel1_S1 (tbl m) i = ![expert s (i 0).val, 0, 0] := by
  unfold cc0_transform_2
  dsimp only
  rw [at_expert, v19_at H, toNat_of_lt (by have := expert_bound H i; show expert s (i 0).val < _; omega)]
  rfl
theorem ix_3 (i : grid0.Coords) : cc0_transform_3 (F := F) k0_off1_inb numel1_S1 (tbl m) i = ![expert s (i 0).val, 0, 0] := ix_2 H i

/-- At sizes that fit, every window's block lies inside its array, on whole words. -/
theorem ok_of_sizes : Ok m := by
  have hw2 : ∀ {k : ℕ} (e : EltTy) (hk : e.packing ∣ 512) (f : Fin 2 → ℕ) (hf : f = ![k, 0]) (h : ∀ a, (f a + 1) * S512x2816.size a ≤ S12288x2816.size a),
      (Rect.block (s := S12288x2816) S512x2816.size f h).WholeWords e.packing := by
    intro k e hk f hf h
    subst hf
    exact (Rect.packedRows_of_rowAxis _ _ (by decide : 2 ≤ S12288x2816.rank) (Dvd.dvd.mul_left hk k) hk rfl).wholeWords
  refine ⟨fun i => ?_, fun i => ?_, fun i => ?_, fun i => ?_, fun i => ?_⟩
  · have hb := tile_bound H i
    refine ⟨?_, .inr (hw2 _ (by decide) _ (ix_0 H i) _)⟩
    rw [ix_0 H i]; intro a
    match a with
    | ⟨0, _⟩ => show (tile s (i 0).val + 1) * 512 ≤ 12288; omega
    | ⟨1, _⟩ => show (0 + 1) * 2816 ≤ 2816; decide
  · have hb := tile_bound H i
    refine ⟨?_, .inl rfl⟩
    rw [ix_1 H i]; intro a
    match a with
    | ⟨0, _⟩ => show (tile s (i 0).val + 1) * 512 ≤ 12288; omega
    | ⟨1, _⟩ => show (0 + 1) * 1 ≤ 1; decide
  · have hb := expert_bound H i
    have hx := ix_2 H i
    revert hx
    generalize cc0_transform_2 (F := F) k0_off1_inb numel1_S1 (tbl m) i = f
    rintro rfl
    refine ⟨?_, .inr (.inr ⟨by decide, rfl, rfl, rfl⟩)⟩
    intro a
    match a with
    | ⟨0, _⟩ => show (expert s (i 0).val + 1) * 1 ≤ 8; omega
    | ⟨1, _⟩ => show (0 + 1) * 2816 ≤ 2816; decide
    | ⟨2, _⟩ => show (0 + 1) * 2816 ≤ 2816; decide
  · have hb := expert_bound H i
    refine ⟨?_, .inl rfl⟩
    rw [ix_3 H i]; intro a
    match a with
    | ⟨0, _⟩ => show (expert s (i 0).val + 1) * 1 ≤ 8; omega
    | ⟨1, _⟩ => show (0 + 1) * 1 ≤ 1; decide
    | ⟨2, _⟩ => show (0 + 1) * 2816 ≤ 2816; decide
  · have hb := tile_bound H i
    refine ⟨?_, .inr (hw2 _ (by decide) _ (ix_4 H i) _)⟩
    rw [ix_4 H i]; intro a
    match a with
    | ⟨0, _⟩ => show (tile s (i 0).val + 1) * 512 ≤ 12288; omega
    | ⟨1, _⟩ => show (0 + 1) * 2816 ≤ 2816; decide

omit H

/-- The group sizes a vector of eight words holds. -/
def sizeOf (x : IVec S8 32) (g : ℕ) : ℕ := if h : g < 8 then (x (ix1 ⟨g, h⟩)).toNat else 0

theorem sizeOf_at (x : IVec S8 32) (g : Fin 8) : x (ix1 g) = BitVec.ofNat 32 (sizeOf x g.val) := by
  unfold sizeOf; rw [dif_pos g.isLt]; exact (BitVec.ofNat_toNat ..).symm ▸ by simp

/-- The precondition says the group sizes add up to the number of rows. -/
theorem sum_of_pre [Cert.Pre_sizes_fit.Facts] (a0 : FVec F Cert.Pre_sizes_fit.S12288x2816 .fp8e4m3) (a1 : FVec F Cert.Pre_sizes_fit.S12288x1 .f32)
    (x : IVec S8 32) (a3 : FVec F Cert.Pre_sizes_fit.S8x2816x2816 .fp8e4m3) (a4 : FVec F Cert.Pre_sizes_fit.S8x2816 .f32)
    (h : Cert.Pre_sizes_fit.fn (F := F) a0 a1 x a3 a4 = fun _ => 1#1) : pre (sizeOf x) 8 = 12288 := by
  have h0 := congrFun h ValueIdx.ix0
  simp only [Cert.Pre_sizes_fit.fn] at h0
  obtain ⟨hA, hB⟩ := IntOp.andi_eq_one.1 h0
  have hle : ∀ g : Fin 8, sizeOf x g.val ≤ 12288 := fun g => by
    have hg := Host.reduce_andi_all _ _ _ _ _ hA (ix1 g)
    obtain ⟨h1, h2⟩ := IntOp.andi_eq_one.1 hg
    have h1' : IntOp.cmpi .sge (x (ix1 g)) 0#32 = 1#1 := h1
    have h2' : IntOp.cmpi .sle (x (ix1 g)) 12288#32 = 1#1 := h2
    unfold sizeOf; rw [dif_pos g.isLt]
    change (x (ix1 g)).toNat ≤ 12288
    generalize x (ix1 g) = w at h1' h2'
    rw [show IntOp.cmpi .sge w 0#32 = BitVec.ofBool ((0#32).sle w) from rfl, ofBool_eq_one_iff, BitVec.sle_iff_toInt_le] at h1'
    rw [show IntOp.cmpi .sle w 12288#32 = BitVec.ofBool (w.sle 12288#32) from rfl, ofBool_eq_one_iff, BitVec.sle_iff_toInt_le] at h2'
    rw [show (0#32 : BitVec 32).toInt = 0 from rfl] at h1'
    rw [show (12288#32 : BitVec 32).toInt = 12288 from rfl] at h2'
    rw [BitVec.toInt_eq_toNat_cond] at h1' h2'
    have := w.isLt
    split at h1' <;> split at h2' <;> omega
  have hs := (reduce_sum x (sizeOf x) (sizeOf_at x) Cert.Pre_sizes_fit.Facts.reducesTo_S8_S_d0 Cert.Pre_sizes_fit.Facts.h_S_).symm.trans (cmpi_eq_iff.1 hB)
  rw [sum_range] at hs
  have hb : pre (sizeOf x) 8 ≤ 8 * 12288 := by
    have e := fun g (hg : g < 8) => hle ⟨g, hg⟩
    show 0 + _ + _ + _ + _ + _ + _ + _ + _ ≤ _
    have := e 0 (by decide); have := e 1 (by decide); have := e 2 (by decide); have := e 3 (by decide)
    have := e 4 (by decide); have := e 5 (by decide); have := e 6 (by decide); have := e 7 (by decide)
    simp only at *
    omega
  have := congrArg BitVec.toNat hs
  rw [toNat_of_lt (by omega)] at this
  exact this

/-- So the launch memory's sizes fit. -/
theorem sizes_of_pre [Cert.Pre_sizes_fit.Facts] (a0 : FVec F Cert.Pre_sizes_fit.S12288x2816 .fp8e4m3) (a1 : FVec F Cert.Pre_sizes_fit.S12288x1 .f32)
    (a3 : FVec F Cert.Pre_sizes_fit.S8x2816x2816 .fp8e4m3) (a4 : FVec F Cert.Pre_sizes_fit.S8x2816 .f32)
    (h : Cert.Pre_sizes_fit.fn (F := F) a0 a1 (w_arg2 m) a3 a4 = fun _ => 1#1) : Sizes m (sizeOf (w_arg2 m)) :=
  ⟨sizeOf_at _, sum_of_pre a0 a1 _ a3 a4 h⟩

/-- The same, of the argument arrays as the launch memory holds them. -/
theorem sizes_of_args [Cert.Pre_sizes_fit.Facts]
    (h : ∀ c : Dev nD, Cert.Pre_sizes_fit.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Sizes m (sizeOf (w_arg2 m)) :=
  sizes_of_pre _ _ _ _ (by rw [eq_arg2]; exact h 0)

end Cert.Kernel.Hand

end
-- ==== Proof.Bits.Unchanged.lean ====
/- The frame: the kernel terminates and its argument arrays end as they began. -/
module

public import proofs.«01_k».proof.Proof.Bits.Frame
public import proofs.«01_k».proof.Proof.Bits.Words

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays -/

theorem V_main_arg0 (c : Dev nD) : V m c main_arg0 = m ((c.tc : Thread nD τ).loc main_arg0) := by
  unfold V; after_reads_simp
theorem V_main_arg1 (c : Dev nD) : V m c main_arg1 = m ((c.tc : Thread nD τ).loc main_arg1) := by
  unfold V; after_reads_simp
theorem V_main_arg2 (c : Dev nD) : V m c main_arg2 = m ((c.tc : Thread nD τ).loc main_arg2) := by
  unfold V; after_reads_simp
theorem V_main_arg3 (c : Dev nD) : V m c main_arg3 = m ((c.tc : Thread nD τ).loc main_arg3) := by
  unfold V; after_reads_simp
theorem V_main_arg4 (c : Dev nD) : V m c main_arg4 = m ((c.tc : Thread nD τ).loc main_arg4) := by
  unfold V; after_reads_simp

set_option maxHeartbeats 4000000 in
/-- Where the launch ends, the argument arrays are as they began. -/
theorem args_of (hO : Ok m) {r : PUnit × MemSt nD τ sig (Elt F)}
    (h : Pipeline.RDat.FramePost ((Pipeline.pin pcfgs fun _ => adm m hO) 0) (fun c => rdat m hO c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 0 rfl).trans (V_main_arg0 m c),
    (Pipeline.RDat.FramePost.arr_in h c 1 rfl).trans (V_main_arg1 m c),
    ((h c).2 main_arg2 (by decide : main_arg2 ∈ Pipeline.restRefs sig spec0)).trans (V_main_arg2 m c),
    (Pipeline.RDat.FramePost.arr_in h c 2 rfl).trans (V_main_arg3 m c),
    ((h c).2 main_arg4 (by decide : main_arg4 ∈ Pipeline.restRefs sig spec0)).trans (V_main_arg4 m c)⟩

/-- The frame: the kernel terminates without fault, its arguments unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m hO h.1, h.2⟩) (run_main_quiescent m ρ hO)

end Cert.Kernel.Hand

end
-- ==== Proof.Ideal.Kit.lean ====
/- What the run of the kernel's pipeline is stated over: the buffers' contents when the pipeline is entered (`V`,
   the host operations applied to the launch memory), the prefetched tables read off them, and the windows' blocks. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host program's stretches of operations, in order. -/
abbrev opss : List (List (HloOp τ sig (Elt F))) :=
  [hostOps0, hostOps0_1, hostOps0_2, hostOps0_3, hostOps0_4, hostOps0_5, hostOps0_6, hostOps0_7, hostOps0_8, hostOps0_9, hostOps0_10]

/-- The buffers' contents when the pipeline is entered: the host operations applied to the launch memory. -/
def V (c : Dev nD) (b : Ref sig .tc) : Buf (Elt F) ((c : Thread nD τ).loc b) :=
  StableHlo.after (opss (F := F)).flatten (fun b => m (c, b)) b

/-- The host program up to the pipeline leaves the buffers at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
    (by simp only [List.Forall, opss]; repeat' apply And.intro
        all_goals rfl)
    fun c => (main_chain c).trans rfl

/-- The tables' contents when the pipeline is entered. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl
/-- Every window's block is inside its array at every point, at these tables. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it. -/
abbrev tbM0 : Memref sig .tc .smem S31 .i32 := Memref.whole main_v19
abbrev htbM0 : tbM0.IsWhole := Memref.isWhole_whole _
abbrev tbM1 : Memref sig .tc .smem S31 .i32 := Memref.whole main_v43
abbrev htbM1 : tbM1.IsWhole := Memref.isWhole_whole _
abbrev tbM2 : Memref sig .tc .smem S31 .i32 := Memref.whole main_v53
abbrev htbM2 : tbM2.IsWhole := Memref.isWhole_whole _
abbrev tbM3 : Memref sig .tc .smem S31 .i32 := Memref.whole main_v54
abbrev htbM3 : tbM3.IsWhole := Memref.isWhole_whole _

/-- A table's buffer on a core: its contents' type, and it held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves the pipeline hands the body, table by table. -/
theorem PhiT_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3)) := by
  unfold Pipeline.ΦT Pipeline.prefHeld
  exact bigSep_univ_eq_bigSepL [(0 : Fin 4), (1 : Fin 4), (2 : Fin 4), (3 : Fin 4)] (by decide) (by decide) _

/-- Window `w`'s block at point `t`, read off its array as the pipeline finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Each window's current staging memref at point `t`, and its wholeness. -/
abbrev ms0 (hO : Ok m) (t : Fin (cfgM m hO).N) : Memref sig .tc .vmem S512x2816 .fp8e4m3 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S512x1 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2816x2816 .fp8e4m3 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x2816 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S512x2816 .bf16 := spec0_4.stage ((cfgM m hO).slots t 4)
abbrev hs4 (hO : Ok m) (t : Fin (cfgM m hO).N) : (ms4 m hO t).IsWhole := hstage0_4 (((cfgM m hO).slots t 4).cast nbuf0_4)

/-- The kernel body at point `t`, on what the pipeline calls it with. -/
abbrev bodyAt (a : (pcfg0 (F := F)).Adm) (t : Fin (cfg0 a).N) : Prog (TpuEff nD τ sig (Elt F) Λ₀ .tc) PUnit :=
  cc0_grouped_fp8_matmul (grid0.coords t) (Memref.whole main_v19) (Memref.isWhole_whole _) (Memref.whole main_v43) (Memref.isWhole_whole _) (Memref.whole main_v53) (Memref.isWhole_whole _) (Memref.whole main_v54) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

end Cert.KernelIdeal.Hand

end
-- ==== Proof.Ideal.Run.lean ====
/- The kernel body's run on any whole staging buffers. -/
module

public import proofs.«01_k».proof.Proof.Ideal.Kit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word table `tb` holds for grid point `i`, as the body loads it. -/
abbrev word1 (c : Dev nD) (i : grid0.Coords) (M : Memref sig .tc .smem S31 .i32) (xt : TbBuf (F := F) c M) : BitVec 32 :=
  M.view.readAt (Elt F) (Rect.unit (s := S31) (k0_off1 i) S1.size (k0_off1_inb i)).toLoadRect xt (Shape.Idx.first (numel1_S1.symm ▸ Nat.one_pos))

set_option maxHeartbeats 4000000 in
/-- At a point whose work item is real, the body leaves its inputs and tables as they were and the output buffer with
    pieces written: the pieces are the witness the run finds. -/
noncomputable def runA (c : Dev nD) (i : grid0.Coords)
    (arg5 : Memref sig .tc .vmem S512x2816 .fp8e4m3) (harg5 : arg5.IsWhole) (arg6 : Memref sig .tc .vmem S512x1 .f32) (harg6 : arg6.IsWhole)
    (arg7 : Memref sig .tc .vmem S1x2816x2816 .fp8e4m3) (harg7 : arg7.IsWhole) (arg8 : Memref sig .tc .vmem S1x1x2816 .f32) (harg8 : arg8.IsWhole)
    (arg9 : Memref sig .tc .vmem S512x2816 .bf16) (harg9 : arg9.IsWhole)
    (x5 : Vec F S512x2816 .fp8e4m3) (x6 : Vec F S512x1 .f32) (x7 : Vec F S1x2816x2816 .fp8e4m3) (x8 : Vec F S1x1x2816 .f32) (x9 : Vec F S512x2816 .bf16)
    (xt0 : TbBuf (F := F) c tbM0) (xt1 : TbBuf (F := F) c tbM1) (xt2 : TbBuf (F := F) c tbM2) (xt3 : TbBuf (F := F) c tbM3)
    (hc : k0_cond1 (word1 c i tbM3 xt3) = 1#1) :
    { L : List (View.Piece (Elt F) S512x2816 .bf16) //
      ∀ (E : Set ℕ) (K : PUnit → sProp 𝕄),
        iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ tbPt c tbM0 xt0 ∗ tbPt c tbM1 xt1 ∗ tbPt c tbM2 xt2 ∗ tbPt c tbM3 xt3
            ∗ (iprop(owns (c : Thread nD τ) arg5 fullShare x5 ∗ owns (c : Thread nD τ) arg6 fullShare x6 ∗ owns (c : Thread nD τ) arg7 fullShare x7 ∗ owns (c : Thread nD τ) arg8 fullShare x8
                ∗ (arg9.view.loc (c : Thread nD τ) ↦[arg9.view.set]{fullShare} arg9.view.writes (Elt F) (harg9.unread x9) L)
                ∗ tbPt c tbM0 xt0 ∗ tbPt c tbM1 xt1 ∗ tbPt c tbM2 xt2 ∗ tbPt c tbM3 xt3) -∗ K ⟨⟩))
          ⊢ wp frame (wpE (defs₀ (F := F)) Variants.none c none) E (cc0_grouped_fp8_matmul i tbM0 htbM0 tbM1 htbM1 tbM2 htbM2 tbM3 htbM3 arg5 harg5 arg6 harg6 arg7 harg7 arg8 harg8 arg9 harg9) K } := by
  refine ⟨?_, fun E K => ?run⟩
  case run =>
    simp only [cc0_grouped_fp8_matmul_eq_skeleton]; unfold cc0_grouped_fp8_matmul_skel
    simp only [k0_part1_eq_skeleton, k0_part2_eq_skeleton, k0_part3_eq_skeleton, k0_part4_eq_skeleton, k0_part5_eq_skeleton]; unfold k0_part1_skel k0_part2_skel k0_part3_skel k0_part4_skel k0_part5_skel
    unfold owns
    iintro ⟨⟨%f5, %hf5, H5⟩, ⟨%f6, %hf6, H6⟩, ⟨%f7, %hf7, H7⟩, ⟨%f8, %hf8, H8⟩, ⟨%f9, %hf9, H9⟩, HT0, HT1, HT2, HT3, Hk⟩
    obtain rfl := harg5.eq_unread hf5
    obtain rfl := harg6.eq_unread hf6
    obtain rfl := harg7.eq_unread hf7
    obtain rfl := harg8.eq_unread hf8
    obtain rfl := harg9.eq_unread hf9
    sl_exec (disch := first | sl_exact hc)
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [HT0]; · iexact HT0
    isplitl [HT1]; · iexact HT1
    isplitl [HT2]; · iexact HT2
    iexact HT3

/-- At a point with no work item the body leaves everything as it was. -/
theorem runB (c : Dev nD) (i : grid0.Coords)
    (arg5 : Memref sig .tc .vmem S512x2816 .fp8e4m3) (harg5 : arg5.IsWhole) (arg6 : Memref sig .tc .vmem S512x1 .f32) (harg6 : arg6.IsWhole)
    (arg7 : Memref sig .tc .vmem S1x2816x2816 .fp8e4m3) (harg7 : arg7.IsWhole) (arg8 : Memref sig .tc .vmem S1x1x2816 .f32) (harg8 : arg8.IsWhole)
    (arg9 : Memref sig .tc .vmem S512x2816 .bf16) (harg9 : arg9.IsWhole)
    (xt3 : TbBuf (F := F) c tbM3)
    (hc : ¬ k0_cond1 (word1 c i tbM3 xt3) = 1#1) (E : Set ℕ) (K : PUnit → sProp 𝕄) :
        iprop(tbPt c tbM3 xt3 ∗ (tbPt c tbM3 xt3 -∗ K ⟨⟩))
          ⊢ wp frame (wpE (defs₀ (F := F)) Variants.none c none) E (cc0_grouped_fp8_matmul i tbM0 htbM0 tbM1 htbM1 tbM2 htbM2 tbM3 htbM3 arg5 harg5 arg6 harg6 arg7 harg7 arg8 harg8 arg9 harg9) K := by
  simp only [cc0_grouped_fp8_matmul_eq_skeleton]; unfold cc0_grouped_fp8_matmul_skel
  iintro ⟨HT3, Hk⟩
  sl_exec (disch := first | sl_exact hc)
  sl_step
  iapply Hk
  iexact HT3

end Cert.KernelIdeal.Hand

end
-- ==== Proof.Ideal.Step.lean ====
/- What the kernel body leaves in the output block, in closed form: eleven column chunks of 256, each row of the block
   replaced by the scaled product where the row is at or after the item's first row and kept elsewhere. -/
module

public import proofs.«01_k».proof.Proof.Ideal.Run

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a table holds for grid point `i`, as the body loads it from the start and tile tables. -/
abbrev word2 (c : Dev nD) (i : grid0.Coords) (M : Memref sig .tc .smem S31 .i32) (xt : TbBuf (F := F) c M) : BitVec 32 :=
  M.view.readAt (Elt F) (Rect.unit (s := S31) (k0_off2 i) S1.size (k0_off2_inb i)).toLoadRect xt (Shape.Idx.first (numel1_S1.symm ▸ Nat.one_pos))

abbrev ro0 : Rect S512x2816 := Rect.unit ![0, 0] S512x256.size inb_S512x2816_S512x256_0_0
abbrev rw0 : Rect S1x2816x2816 := Rect.unit ![0, 0, 0] S1x2816x256.size inb_S1x2816x2816_S1x2816x256_0_0_0
abbrev rs0 : Rect S1x1x2816 := Rect.unit ![0, 0, 0] S1x1x256.size inb_S1x1x2816_S1x1x256_0_0_0
abbrev ro1 : Rect S512x2816 := Rect.unit ![0, 256] S512x256.size inb_S512x2816_S512x256_0_256
abbrev rw1 : Rect S1x2816x2816 := Rect.unit ![0, 0, 256] S1x2816x256.size inb_S1x2816x2816_S1x2816x256_0_0_256
abbrev rs1 : Rect S1x1x2816 := Rect.unit ![0, 0, 256] S1x1x256.size inb_S1x1x2816_S1x1x256_0_0_256
abbrev ro2 : Rect S512x2816 := Rect.unit ![0, 512] S512x256.size inb_S512x2816_S512x256_0_512
abbrev rw2 : Rect S1x2816x2816 := Rect.unit ![0, 0, 512] S1x2816x256.size inb_S1x2816x2816_S1x2816x256_0_0_512
abbrev rs2 : Rect S1x1x2816 := Rect.unit ![0, 0, 512] S1x1x256.size inb_S1x1x2816_S1x1x256_0_0_512
abbrev ro3 : Rect S512x2816 := Rect.unit ![0, 768] S512x256.size inb_S512x2816_S512x256_0_768
abbrev rw3 : Rect S1x2816x2816 := Rect.unit ![0, 0, 768] S1x2816x256.size inb_S1x2816x2816_S1x2816x256_0_0_768
abbrev rs3 : Rect S1x1x2816 := Rect.unit ![0, 0, 768] S1x1x256.size inb_S1x1x2816_S1x1x256_0_0_768
abbrev ro4 : Rect S512x2816 := Rect.unit ![0, 1024] S512x256.size inb_S512x2816_S512x256_0_1024
abbrev rw4 : Rect S1x2816x2816 := Rect.unit ![0, 0, 1024] S1x2816x256.size inb_S1x2816x2816_S1x2816x256_0_0_1024
abbrev rs4 : Rect S1x1x2816 := Rect.unit ![0, 0, 1024] S1x1x256.size inb_S1x1x2816_S1x1x256_0_0_1024
abbrev ro5 : Rect S512x2816 := Rect.unit ![0, 1280] S512x256.size inb_S512x2816_S512x256_0_1280
abbrev rw5 : Rect S1x2816x2816 := Rect.unit ![0, 0, 1280] S1x2816x256.size inb_S1x2816x2816_S1x2816x256_0_0_1280
abbrev rs5 : Rect S1x1x2816 := Rect.unit ![0, 0, 1280] S1x1x256.size inb_S1x1x2816_S1x1x256_0_0_1280
abbrev ro6 : Rect S512x2816 := Rect.unit ![0, 1536] S512x256.size inb_S512x2816_S512x256_0_1536
abbrev rw6 : Rect S1x2816x2816 := Rect.unit ![0, 0, 1536] S1x2816x256.size inb_S1x2816x2816_S1x2816x256_0_0_1536
abbrev rs6 : Rect S1x1x2816 := Rect.unit ![0, 0, 1536] S1x1x256.size inb_S1x1x2816_S1x1x256_0_0_1536
abbrev ro7 : Rect S512x2816 := Rect.unit ![0, 1792] S512x256.size inb_S512x2816_S512x256_0_1792
abbrev rw7 : Rect S1x2816x2816 := Rect.unit ![0, 0, 1792] S1x2816x256.size inb_S1x2816x2816_S1x2816x256_0_0_1792
abbrev rs7 : Rect S1x1x2816 := Rect.unit ![0, 0, 1792] S1x1x256.size inb_S1x1x2816_S1x1x256_0_0_1792
abbrev ro8 : Rect S512x2816 := Rect.unit ![0, 2048] S512x256.size inb_S512x2816_S512x256_0_2048
abbrev rw8 : Rect S1x2816x2816 := Rect.unit ![0, 0, 2048] S1x2816x256.size inb_S1x2816x2816_S1x2816x256_0_0_2048
abbrev rs8 : Rect S1x1x2816 := Rect.unit ![0, 0, 2048] S1x1x256.size inb_S1x1x2816_S1x1x256_0_0_2048
abbrev ro9 : Rect S512x2816 := Rect.unit ![0, 2304] S512x256.size inb_S512x2816_S512x256_0_2304
abbrev rw9 : Rect S1x2816x2816 := Rect.unit ![0, 0, 2304] S1x2816x256.size inb_S1x2816x2816_S1x2816x256_0_0_2304
abbrev rs9 : Rect S1x1x2816 := Rect.unit ![0, 0, 2304] S1x1x256.size inb_S1x1x2816_S1x1x256_0_0_2304
abbrev ro10 : Rect S512x2816 := Rect.unit ![0, 2560] S512x256.size inb_S512x2816_S512x256_0_2560
abbrev rw10 : Rect S1x2816x2816 := Rect.unit ![0, 0, 2560] S1x2816x256.size inb_S1x2816x2816_S1x2816x256_0_0_2560
abbrev rs10 : Rect S1x1x2816 := Rect.unit ![0, 0, 2560] S1x1x256.size inb_S1x1x2816_S1x1x256_0_0_2560

abbrev rx : Rect S512x2816 := Rect.unit ![0, 0] S512x2816.size inb_S512x2816_S512x2816_0_0
abbrev rxs : Rect S512x1 := Rect.unit ![0, 0] S512x1.size inb_S512x1_S512x1_0_0

/-- What one chunk's store writes: its column chunk of the weights, scales and the block as found. -/
abbrev chunk (v6 v8 : BitVec 32) (x5 : Vec F S512x2816 .fp8e4m3) (x6 : Vec F S512x1 .f32) (w : Vec F S1x2816x256 .fp8e4m3) (s : Vec F S1x1x256 .f32) (o : Vec F S512x256 .bf16) : FVec F S512x256 .bf16 :=
  k0_pay1 (k0_pay2 (F := F) v6 v8) (View.ld (Val := Elt F) x5 rx) (View.ld (Val := Elt F) x6 rxs) w s o

/-- The output block after a real work item: `v6` the item's first row, `v8` its tile, `x9` the block as found. -/
def stepA (v6 v8 : BitVec 32) (x5 : Vec F S512x2816 .fp8e4m3) (x6 : Vec F S512x1 .f32) (x7 : Vec F S1x2816x2816 .fp8e4m3) (x8 : Vec F S1x1x2816 .f32) (x9 : Vec F S512x2816 .bf16) : Vec F S512x2816 .bf16 :=
  View.canon (Val := Elt F) [
    ⟨ro10, chunk v6 v8 x5 x6 (View.ld (Val := Elt F) x7 rw10) (View.ld (Val := Elt F) x8 rs10) (View.ld (Val := Elt F) x9 ro10)⟩,
    ⟨ro9, chunk v6 v8 x5 x6 (View.ld (Val := Elt F) x7 rw9) (View.ld (Val := Elt F) x8 rs9) (View.ld (Val := Elt F) x9 ro9)⟩,
    ⟨ro8, chunk v6 v8 x5 x6 (View.ld (Val := Elt F) x7 rw8) (View.ld (Val := Elt F) x8 rs8) (View.ld (Val := Elt F) x9 ro8)⟩,
    ⟨ro7, chunk v6 v8 x5 x6 (View.ld (Val := Elt F) x7 rw7) (View.ld (Val := Elt F) x8 rs7) (View.ld (Val := Elt F) x9 ro7)⟩,
    ⟨ro6, chunk v6 v8 x5 x6 (View.ld (Val := Elt F) x7 rw6) (View.ld (Val := Elt F) x8 rs6) (View.ld (Val := Elt F) x9 ro6)⟩,
    ⟨ro5, chunk v6 v8 x5 x6 (View.ld (Val := Elt F) x7 rw5) (View.ld (Val := Elt F) x8 rs5) (View.ld (Val := Elt F) x9 ro5)⟩,
    ⟨ro4, chunk v6 v8 x5 x6 (View.ld (Val := Elt F) x7 rw4) (View.ld (Val := Elt F) x8 rs4) (View.ld (Val := Elt F) x9 ro4)⟩,
    ⟨ro3, chunk v6 v8 x5 x6 (View.ld (Val := Elt F) x7 rw3) (View.ld (Val := Elt F) x8 rs3) (View.ld (Val := Elt F) x9 ro3)⟩,
    ⟨ro2, chunk v6 v8 x5 x6 (View.ld (Val := Elt F) x7 rw2) (View.ld (Val := Elt F) x8 rs2) (View.ld (Val := Elt F) x9 ro2)⟩,
    ⟨ro1, chunk v6 v8 x5 x6 (View.ld (Val := Elt F) x7 rw1) (View.ld (Val := Elt F) x8 rs1) (View.ld (Val := Elt F) x9 ro1)⟩,
    ⟨ro0, chunk v6 v8 x5 x6 (View.ld (Val := Elt F) x7 rw0) (View.ld (Val := Elt F) x8 rs0) (View.ld (Val := Elt F) x9 ro0)⟩]

/-- The eleven chunks cover the block. -/
theorem cover_chunks (p0 p1 p2 p3 p4 p5 p6 p7 p8 p9 p10 : Vec F S512x256 .bf16) (y : S512x2816.Idx) :
    ∃ pc ∈ ([⟨ro10, p10⟩, ⟨ro9, p9⟩, ⟨ro8, p8⟩, ⟨ro7, p7⟩, ⟨ro6, p6⟩, ⟨ro5, p5⟩, ⟨ro4, p4⟩, ⟨ro3, p3⟩, ⟨ro2, p2⟩, ⟨ro1, p1⟩, ⟨ro0, p0⟩] : List (View.Piece (Elt F) S512x2816 .bf16)), y ∈ pc.1.set :=
  View.cover_of_tiled [⟨ro10, p10⟩, ⟨ro9, p9⟩, ⟨ro8, p8⟩, ⟨ro7, p7⟩, ⟨ro6, p6⟩, ⟨ro5, p5⟩, ⟨ro4, p4⟩, ⟨ro3, p3⟩, ⟨ro2, p2⟩, ⟨ro1, p1⟩, ⟨ro0, p0⟩] S512x256.size (by rfl) y

variable {c : Dev nD} {i : grid0.Coords}

set_option maxHeartbeats 4000000 in
/-- At a point whose work item is real, the body leaves the output block at `stepA` of what it found. -/
theorem runA_owns (c : Dev nD) (i : grid0.Coords)
    (arg5 : Memref sig .tc .vmem S512x2816 .fp8e4m3) (harg5 : arg5.IsWhole) (arg6 : Memref sig .tc .vmem S512x1 .f32) (harg6 : arg6.IsWhole)
    (arg7 : Memref sig .tc .vmem S1x2816x2816 .fp8e4m3) (harg7 : arg7.IsWhole) (arg8 : Memref sig .tc .vmem S1x1x2816 .f32) (harg8 : arg8.IsWhole)
    (arg9 : Memref sig .tc .vmem S512x2816 .bf16) (harg9 : arg9.IsWhole)
    (x5 : Vec F S512x2816 .fp8e4m3) (x6 : Vec F S512x1 .f32) (x7 : Vec F S1x2816x2816 .fp8e4m3) (x8 : Vec F S1x1x2816 .f32) (x9 : Vec F S512x2816 .bf16)
    (xt0 : TbBuf (F := F) c tbM0) (xt1 : TbBuf (F := F) c tbM1) (xt2 : TbBuf (F := F) c tbM2) (xt3 : TbBuf (F := F) c tbM3)
    (hc : k0_cond1 (word1 c i tbM3 xt3) = 1#1) (E : Set ℕ) (K : PUnit → sProp 𝕄) :
        iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ tbPt c tbM0 xt0 ∗ tbPt c tbM1 xt1 ∗ tbPt c tbM2 xt2 ∗ tbPt c tbM3 xt3
            ∗ (iprop(owns (c : Thread nD τ) arg5 fullShare x5 ∗ owns (c : Thread nD τ) arg6 fullShare x6 ∗ owns (c : Thread nD τ) arg7 fullShare x7 ∗ owns (c : Thread nD τ) arg8 fullShare x8
                ∗ owns (c : Thread nD τ) arg9 fullShare (stepA (word2 c i tbM2 xt2) (word2 c i tbM1 xt1) x5 x6 x7 x8 x9)
                ∗ tbPt c tbM0 xt0 ∗ tbPt c tbM1 xt1 ∗ tbPt c tbM2 xt2 ∗ tbPt c tbM3 xt3) -∗ K ⟨⟩))
          ⊢ wp frame (wpE (defs₀ (F := F)) Variants.none c none) E (cc0_grouped_fp8_matmul i tbM0 htbM0 tbM1 htbM1 tbM2 htbM2 tbM3 htbM3 arg5 harg5 arg6 harg6 arg7 harg7 arg8 harg8 arg9 harg9) K := by
  have hP : (runA c i arg5 harg5 arg6 harg6 arg7 harg7 arg8 harg8 arg9 harg9 x5 x6 x7 x8 x9 xt0 xt1 xt2 xt3 hc).1
      = [⟨ro10, chunk (word2 c i tbM2 xt2) (word2 c i tbM1 xt1) x5 x6 (View.ld (Val := Elt F) x7 rw10) (View.ld (Val := Elt F) x8 rs10) (View.ld (Val := Elt F) x9 ro10)⟩,
        ⟨ro9, chunk (word2 c i tbM2 xt2) (word2 c i tbM1 xt1) x5 x6 (View.ld (Val := Elt F) x7 rw9) (View.ld (Val := Elt F) x8 rs9) (View.ld (Val := Elt F) x9 ro9)⟩,
        ⟨ro8, chunk (word2 c i tbM2 xt2) (word2 c i tbM1 xt1) x5 x6 (View.ld (Val := Elt F) x7 rw8) (View.ld (Val := Elt F) x8 rs8) (View.ld (Val := Elt F) x9 ro8)⟩,
        ⟨ro7, chunk (word2 c i tbM2 xt2) (word2 c i tbM1 xt1) x5 x6 (View.ld (Val := Elt F) x7 rw7) (View.ld (Val := Elt F) x8 rs7) (View.ld (Val := Elt F) x9 ro7)⟩,
        ⟨ro6, chunk (word2 c i tbM2 xt2) (word2 c i tbM1 xt1) x5 x6 (View.ld (Val := Elt F) x7 rw6) (View.ld (Val := Elt F) x8 rs6) (View.ld (Val := Elt F) x9 ro6)⟩,
        ⟨ro5, chunk (word2 c i tbM2 xt2) (word2 c i tbM1 xt1) x5 x6 (View.ld (Val := Elt F) x7 rw5) (View.ld (Val := Elt F) x8 rs5) (View.ld (Val := Elt F) x9 ro5)⟩,
        ⟨ro4, chunk (word2 c i tbM2 xt2) (word2 c i tbM1 xt1) x5 x6 (View.ld (Val := Elt F) x7 rw4) (View.ld (Val := Elt F) x8 rs4) (View.ld (Val := Elt F) x9 ro4)⟩,
        ⟨ro3, chunk (word2 c i tbM2 xt2) (word2 c i tbM1 xt1) x5 x6 (View.ld (Val := Elt F) x7 rw3) (View.ld (Val := Elt F) x8 rs3) (View.ld (Val := Elt F) x9 ro3)⟩,
        ⟨ro2, chunk (word2 c i tbM2 xt2) (word2 c i tbM1 xt1) x5 x6 (View.ld (Val := Elt F) x7 rw2) (View.ld (Val := Elt F) x8 rs2) (View.ld (Val := Elt F) x9 ro2)⟩,
        ⟨ro1, chunk (word2 c i tbM2 xt2) (word2 c i tbM1 xt1) x5 x6 (View.ld (Val := Elt F) x7 rw1) (View.ld (Val := Elt F) x8 rs1) (View.ld (Val := Elt F) x9 ro1)⟩,
        ⟨ro0, chunk (word2 c i tbM2 xt2) (word2 c i tbM1 xt1) x5 x6 (View.ld (Val := Elt F) x7 rw0) (View.ld (Val := Elt F) x8 rs0) (View.ld (Val := Elt F) x9 ro0)⟩] := by
    unfold runA
    dsimp only
    simp only [runA.sl.v42, runA.sl.v58, runA.sl.v74, runA.sl.v90, runA.sl.v106, runA.sl.v122, runA.sl.v138, runA.sl.v154, runA.sl.v170, runA.sl.v186, runA.sl.r_1, runA.sl.r_2,
      View.readAt_eq_ld, harg5.read_unread, harg6.read_unread, harg7.read_unread, harg8.read_unread, harg9.read_unread]
    rfl
  have hL : arg9.view.read (Elt F) (arg9.view.writes (Elt F) (harg9.unread x9) (runA c i arg5 harg5 arg6 harg6 arg7 harg7 arg8 harg8 arg9 harg9 x5 x6 x7 x8 x9 xt0 xt1 xt2 xt3 hc).1)
      = stepA (word2 c i tbM2 xt2) (word2 c i tbM1 xt1) x5 x6 x7 x8 x9 := by
    rw [hP]
    exact View.read_writes_eq_canon _ _ _ (cover_chunks _ _ _ _ _ _ _ _ _ _ _)
  refine .trans ?_ ((runA c i arg5 harg5 arg6 harg6 arg7 harg7 arg8 harg8 arg9 harg9 x5 x6 x7 x8 x9 xt0 xt1 xt2 xt3 hc).2 E K)
  iintro ⟨H5, H6, H7, H8, H9, HT0, HT1, HT2, HT3, Hk⟩
  isplitl [H5]; · iexact H5
  isplitl [H6]; · iexact H6
  isplitl [H7]; · iexact H7
  isplitl [H8]; · iexact H8
  isplitl [H9]; · iexact H9
  isplitl [HT0]; · iexact HT0
  isplitl [HT1]; · iexact HT1
  isplitl [HT2]; · iexact HT2
  isplitl [HT3]; · iexact HT3
  iintro ⟨H5, H6, H7, H8, H9, HT0, HT1, HT2, HT3⟩
  iapply Hk
  isplitl [H5]; · iexact H5
  isplitl [H6]; · iexact H6
  isplitl [H7]; · iexact H7
  isplitl [H8]; · iexact H8
  isplitl [H9]
  · unfold owns
    iexists _; isplitr
    swap; · iexact H9
    ipureintro; exact hL
  isplitl [HT0]; · iexact HT0
  isplitl [HT1]; · iexact HT1
  isplitl [HT2]; · iexact HT2
  iexact HT3

end Cert.KernelIdeal.Hand

end
-- ==== Proof.Ideal.Frame.lean ====
/- The run of the whole kernel: what the pipeline does to the windows' buffers point by point, and the launch. -/
module

public import proofs.«01_k».proof.Proof.Ideal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The words of the prefetched tables at point `t`: the row the item starts at, its row tile, and whether it is real. -/
abbrev startW (hO : Ok m) (c : Dev nD) (t : Fin (cfgM m hO).N) : BitVec 32 := word2 (F := F) c (grid0.coords t) tbM2 (tbl m 2)
abbrev tileW (hO : Ok m) (c : Dev nD) (t : Fin (cfgM m hO).N) : BitVec 32 := word2 (F := F) c (grid0.coords t) tbM1 (tbl m 1)
abbrev validW (hO : Ok m) (c : Dev nD) (t : Fin (cfgM m hO).N) : BitVec 32 := word1 (F := F) c (grid0.coords t) tbM3 (tbl m 3)

/-- What the body leaves in the output block at point `t` when it found `Y` there. -/
def outAt (hO : Ok m) (c : Dev nD) (t : Fin (cfgM m hO).N) (Y : Vec F S512x2816 .bf16) : Vec F S512x2816 .bf16 :=
  if k0_cond1 (validW m hO c t) = 1#1 then
    stepA (startW m hO c t) (tileW m hO c t) (iblk m hO c 0 t) (iblk m hO c 1 t) (iblk m hO c 2 t) (iblk m hO c 3 t) Y
  else Y

/-- What the body may leave in each window's buffer: the inputs as found, the output at `outAt` of what was found. -/
def afterR (hO : Ok m) (c : Dev nD) : (w : Fin (cfgM m hO).W) → (t : Fin (cfgM m hO).N) →
    (((cfgM m hO).win w).block.Idx → Elt F ((cfgM m hO).win w).elt) → (((cfgM m hO).win w).block.Idx → Elt F ((cfgM m hO).win w).elt) → Prop
  | ⟨0, _⟩, _, Y, X => X = Y
  | ⟨1, _⟩, _, Y, X => X = Y
  | ⟨2, _⟩, _, Y, X => X = Y
  | ⟨3, _⟩, _, Y, X => X = Y
  | ⟨4, _⟩, t, Y, X => X = outAt m hO c t Y

/-- The proof data of the pipeline on core `c`. -/
def rdat (hO : Ok m) (c : Dev nD) : Pipeline.RDat τ (Elt F) Unit ℕ (UR sig nD τ) ℕ (cfgM m hO) c where
  A w := V m c (Pipeline.arrRef spec0 w)
  after := afterR m hO c
  Φ _ := iprop(Pipeline.ΦA spec0 c ∗ Pipeline.ΦT pre0 (tbl m) c)
  q _ := fullShare
  owed _ := 0

/-- An input's buffer holds its block at every point the body is handed it. -/
theorem finds_0 (hO : Ok m) (c : Dev nD) (t : Fin (cfgM m hO).N) (Y) (h : (rdat m hO c).Finds 0 t Y) : Y = iblk m hO c 0 t := by
  obtain ⟨d, rfl⟩ := (rdat m hO c).finds_in_eq_fetched 0 rfl (fun _ _ _ => rfl) (fun _ _ _ h => h) t Y h
  rfl
theorem finds_1 (hO : Ok m) (c : Dev nD) (t : Fin (cfgM m hO).N) (Y) (h : (rdat m hO c).Finds 1 t Y) : Y = iblk m hO c 1 t := by
  obtain ⟨d, rfl⟩ := (rdat m hO c).finds_in_eq_fetched 1 rfl (fun _ _ _ => rfl) (fun _ _ _ h => h) t Y h
  rfl
theorem finds_2 (hO : Ok m) (c : Dev nD) (t : Fin (cfgM m hO).N) (Y) (h : (rdat m hO c).Finds 2 t Y) : Y = iblk m hO c 2 t := by
  obtain ⟨d, rfl⟩ := (rdat m hO c).finds_in_eq_fetched 2 rfl (fun _ _ _ => rfl) (fun _ _ _ h => h) t Y h
  rfl
theorem finds_3 (hO : Ok m) (c : Dev nD) (t : Fin (cfgM m hO).N) (Y) (h : (rdat m hO c).Finds 3 t Y) : Y = iblk m hO c 3 t := by
  obtain ⟨d, rfl⟩ := (rdat m hO c).finds_in_eq_fetched 3 rfl (fun _ _ _ => rfl) (fun _ _ _ h => h) t Y h
  rfl

/-- The body's triple at point `t`, from the buffers at `y0 … y4`, the inputs at their blocks. -/
theorem sound_body (hO : Ok m) (c : Dev nD) (t : Fin (cfgM m hO).N)
    (y0 : Vec F S512x2816 .fp8e4m3) (y1 : Vec F S512x1 .f32) (y2 : Vec F S1x2816x2816 .fp8e4m3) (y3 : Vec F S1x1x2816 .f32) (y4 : Vec F S512x2816 .bf16)
    (h0 : y0 = iblk m hO c 0 t) (h1 : y1 = iblk m hO c 1 t) (h2 : y2 = iblk m hO c 2 t) (h3 : y3 = iblk m hO c 3 t) :
    iprop((rdat m hO c).Φ t.castSucc ∗ (rdat m hO c).owesAt () t.castSucc
      ∗ owns (c : Thread nD τ) (ms0 m hO t) fullShare y0 ∗ owns (c : Thread nD τ) (ms1 m hO t) fullShare y1
      ∗ owns (c : Thread nD τ) (ms2 m hO t) fullShare y2 ∗ owns (c : Thread nD τ) (ms3 m hO t) fullShare y3
      ∗ owns (c : Thread nD τ) (ms4 m hO t) fullShare y4)
    ⊢ wp frame (wpE (defs₀ (F := F)) Variants.none c none) Set.univ (bodyAt (adm m hO) t) (fun _ =>
      iprop((rdat m hO c).Φ t.succ ∗ (rdat m hO c).owesAt () t.succ
        ∗ (∃ X, ⌜X = y0⌝ ∗ owns (c : Thread nD τ) (ms0 m hO t) fullShare X) ∗ (∃ X, ⌜X = y1⌝ ∗ owns (c : Thread nD τ) (ms1 m hO t) fullShare X)
        ∗ (∃ X, ⌜X = y2⌝ ∗ owns (c : Thread nD τ) (ms2 m hO t) fullShare X) ∗ (∃ X, ⌜X = y3⌝ ∗ owns (c : Thread nD τ) (ms3 m hO t) fullShare X)
        ∗ (∃ X, ⌜X = outAt m hO c t y4⌝ ∗ owns (c : Thread nD τ) (ms4 m hO t) fullShare X))) := by
  subst h0 h1 h2 h3
  unfold bodyAt
  rw [show (rdat m hO c).Φ t.succ = (rdat m hO c).Φ t.castSucc from rfl,
    show (rdat m hO c).Φ t.castSucc = iprop(Pipeline.ΦA spec0 c ∗ Pipeline.ΦT pre0 (tbl m) c) from rfl, PhiT_eq]
  unfold Pipeline.RDat.owesAt Pipeline.owesWithin
  rw [show (rdat m hO c).owed t.castSucc = 0 from rfl, show (rdat m hO c).owed t.succ = 0 from rfl]
  iintro ⟨⟨HA, HT0, HT1, HT2, HT3⟩, ⟨%W, -, HW⟩, H0, H1, H2, H3, H4⟩
  by_cases hc : k0_cond1 (validW m hO c t) = 1#1
  · iapply (runA_owns c (grid0.coords t) _ _ _ _ _ _ _ _ _ _ (iblk m hO c 0 t) (iblk m hO c 1 t) (iblk m hO c 2 t) (iblk m hO c 3 t) y4 (tbl m 0) (tbl m 1) (tbl m 2) (tbl m 3) hc)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HT3]; · iexact HT3
    iintro ⟨H0, H1, H2, H3, H4, HT0, HT1, HT2, HT3⟩
    isplitl [HA HT0 HT1 HT2 HT3]
    · isplitl [HA]; · iexact HA
      isplitl [HT0]; · iexact HT0
      isplitl [HT1]; · iexact HT1
      isplitl [HT2]; · iexact HT2
      iexact HT3
    isplitl [HW]
    · iexists W; isplitr; · ipureintro; exact fun _ _ => Or.inl trivial
      iexact HW
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    iexists _; isplitr; · ipureintro; exact (if_pos hc).symm
    iexact H4
  · iapply (runB c (grid0.coords t) _ _ _ _ _ _ _ _ _ _ (tbl m 3) hc)
    isplitl [HT3]; · iexact HT3
    iintro HT3
    isplitl [HA HT0 HT1 HT2 HT3]
    · isplitl [HA]; · iexact HA
      isplitl [HT0]; · iexact HT0
      isplitl [HT1]; · iexact HT1
      isplitl [HT2]; · iexact HT2
      iexact HT3
    isplitl [HW]
    · iexists W; isplitr; · ipureintro; exact fun _ _ => Or.inl trivial
      iexact HW
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    iexists _; isplitr; · ipureintro; exact (if_neg hc).symm
    iexact H4

/-- The body obligation at every point. -/
theorem body_obligation (hO : Ok m) (c : Dev nD) : (rdat m hO c).BodyObligation (defs₀ (F := F)) Variants.none () Set.univ := fun t Y hY => by
  rw [bigSep_W0, bigSep_W0, defs₀_row m hO]
  exact triple_restated (sound_body m hO c t (Y 0) (Y 1) (Y 2) (Y 3) (Y 4) (finds_0 m hO c t _ (hY 0)) (finds_1 m hO c t _ (hY 1)) (finds_2 m hO c t _ (hY 2)) (finds_3 m hO c t _ (hY 3))) rfl .rfl fun _ => .rfl

theorem share_full (hO : Ok m) (c : Dev nD) (w) : (rdat m hO c).share w = fullShare := by
  unfold Pipeline.RDat.share; split <;> rfl

set_option maxHeartbeats 4000000 in
set_option backward.isDefEq.respectTransparency.types false in
/-- The launch: every output array is as the write-backs leave it, every other buffer as the pipeline found it, and every
    semaphore counter at zero. -/
theorem run_main_quiescent (hO : Ok m) : θ_run defs (onTc (τ := τ) (main (F := F))) (s₀ m ρ)
    (fun r => (Pipeline.RDat.FramePost ((Pipeline.pin pcfgs fun _ => adm m hO) 0) (fun c => rdat m hO c) (V m)) r ∧ r.2.sem = fun _ => 0) :=
  Pipeline.RDat.θ_run_frameP (Q' := _) pcfgs (fun _ => adm m hO) (0 : Fin 1) launch0 defs₀ Variants.none (rdat m hO) m ρ main
    (hbody := fun c => body_obligation m hO c) (hshare := share_full m hO)
    (howed := fun _ _ => rfl) (V := V m) (hmain := hmain m Variants.none) (hA := fun _ _ => rfl) (hpf := V_pre m) (hΦ := fun _ _ => rfl)
    (hQ' := fun _ h => h)

end Cert.KernelIdeal.Hand

end
-- ==== Proof.Ideal.Words.lean ====
/- What the host operations before the kernel leave in its tables: one equation for each step of the host program. -/
module

public import proofs.«01_k».proof.Proof.Ideal.Kit
public import Idealize.ShloMosaic.Lib.Routing.Model
public import Idealize.ShloMosaic.Lib.StableHlo.RunRead

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Routing (pyDiv)

variable {F : FTy → Type} [FloatOps F]
variable (m : (ℓ : Loc nD τ sig) → Buf (Elt F) ℓ)

/-- The integer vector a buffer of the host program holds when the pipeline is entered. -/
abbrev w_arg2 : IVec S8 32 := V m (0 : Dev nD) main_arg2
abbrev w_v0 : IVec S8 32 := V m (0 : Dev nD) main_v0
abbrev w_v1 : IVec S8 32 := V m (0 : Dev nD) main_v1
abbrev w_v2 : IVec S8 32 := V m (0 : Dev nD) main_v2
abbrev w_v5 : IVec S8 32 := V m (0 : Dev nD) main_v5
abbrev w_v11 : IVec S8 32 := V m (0 : Dev nD) main_v11
abbrev w_v12 : IVec S8 32 := V m (0 : Dev nD) main_v12
abbrev w_v14 : IVec S_ 32 := V m (0 : Dev nD) main_v14
abbrev w_v18 : IVec S31 32 := V m (0 : Dev nD) main_v18
abbrev w_v19 : IVec S31 32 := V m (0 : Dev nD) main_v19
abbrev w_v43 : IVec S31 32 := V m (0 : Dev nD) main_v43
abbrev w_v53 : IVec S31 32 := V m (0 : Dev nD) main_v53
abbrev w_v54 : IVec S31 32 := V m (0 : Dev nD) main_v54

/-- A take's index vector as it prints: a negative index counted from the end. -/
def wrapIdx (x : IVec S31 32) : IVec S31x1 32 :=
  broadcastInDim S31x1 ![0] bcast_S31_S31x1_0
    (select (cmpi .slt x (broadcastInDim S31 ![] bcast_S_S31 (constantI S_ 32 0#32)))
      (addi x (broadcastInDim S31 ![] bcast_S_S31 (constantI S_ 32 8#32))) x)

theorem eq_arg2 : w_arg2 m = m ((0 : Dev nD), (Proc.devRef .tc main_arg2 : DevRef τ sig)) := by
  unfold w_arg2 V; after_reads_simp

theorem eq_v0 : w_v0 m = Host.reduceWindow IntOp.addi ![8] ![1] ![7] ![0] (w_arg2 m) (broadcastInDim S_ ![] bcast_S_S_ (constantI S_ 32 0#32)) reduceWindows_S8_S8_w8s1p7_0 h_S_ := by
  unfold w_v0 w_arg2 V; after_reads_simp
  try simp -implicitDefEqProofs only [StableHlo.TRef.toBuf, StableHlo.TRef.ofBuf, cast_cast, cast_eq, id_eq]
  try rfl
theorem eq_v1 : w_v1 m = subi (w_v0 m) (w_arg2 m) := by
  unfold w_v0 w_v1 w_arg2 V; after_reads_simp
theorem eq_v2 : w_v2 m = pyDiv bcast_S_S8 (w_v1 m) (constantI S_ 32 512#32) := by
  unfold pyDiv w_v2 w_v1 V; after_reads_simp
  try simp -implicitDefEqProofs only [StableHlo.TRef.toBuf, StableHlo.TRef.ofBuf, cast_cast, cast_eq, id_eq]
  try rfl
theorem eq_v5 : w_v5 m = pyDiv bcast_S_S8 (subi (w_v0 m) (broadcastInDim S8 ![] bcast_S_S8 (constantI S_ 32 1#32))) (constantI S_ 32 512#32) := by
  unfold pyDiv w_v5 w_v0 V; after_reads_simp
  try simp -implicitDefEqProofs only [StableHlo.TRef.toBuf, StableHlo.TRef.ofBuf, cast_cast, cast_eq, id_eq]
  try rfl
theorem eq_v11 : w_v11 m = select (cmpi .sgt (w_arg2 m) (broadcastInDim S8 ![] bcast_S_S8 (constantI S_ 32 0#32)))
    (addi (subi (w_v5 m) (w_v2 m)) (broadcastInDim S8 ![] bcast_S_S8 (constantI S_ 32 1#32)))
    (broadcastInDim S8 ![] bcast_S_S8 (constantI S_ 32 0#32)) := by
  unfold w_v11 w_v5 w_v2 w_arg2 V; after_reads_simp; rfl
theorem eq_v12 : w_v12 m = Host.reduceWindow IntOp.addi ![8] ![1] ![7] ![0] (w_v11 m) (broadcastInDim S_ ![] bcast_S_S_ (constantI S_ 32 0#32)) reduceWindows_S8_S8_w8s1p7_0 h_S_ := by
  unfold w_v12 w_v11 V; after_reads_simp
  try simp -implicitDefEqProofs only [StableHlo.TRef.toBuf, StableHlo.TRef.ofBuf, cast_cast, cast_eq, id_eq]
  try rfl
theorem eq_v14 : w_v14 m = shapeCast S_ (extractStridedSlice S1 ![7] (w_v12 m) slices_S8_S1_7) shapeCasts_S1_S_ := by
  unfold w_v14 w_v12 V; after_reads_simp; rfl
theorem eq_v18 : w_v18 m = minsi (iotaInDim S31 32 0) (broadcastInDim S31 ![] bcast_S_S31 (subi (w_v14 m) (constantI S_ 32 1#32))) := by
  unfold w_v18 w_v14 V; after_reads_simp
theorem eq_v19 : w_v19 m = Host.reduce IntOp.addi (extui 32
    (cmpi .sle (broadcastInDim S8x31 ![0, 1] bcast_S8x1_S8x31_0_1 (broadcastInDim S8x1 ![0] bcast_S8_S8x1_0 (w_v12 m)))
      (broadcastInDim S8x31 ![0, 1] bcast_S1x31_S8x31_0_1 (broadcastInDim S1x31 ![1] bcast_S31_S1x31_1 (w_v18 m)))) natLt_1_32)
    (constantI S_ 32 0#32) reducesTo_S8x31_S31_d0 h_S_ := by
  unfold w_v19 w_v12 w_v18 V; after_reads_simp
  try simp -implicitDefEqProofs only [StableHlo.TRef.toBuf, StableHlo.TRef.ofBuf, cast_cast, cast_eq, id_eq]
  try rfl
set_option maxHeartbeats 4000000 in
theorem eq_v43 : w_v43 m = subi (addi (Host.gather gather_S8_S31x1_S31_n_0_n_n_0_1_1 (w_v2 m) (wrapIdx (w_v19 m))) (w_v18 m))
    (subi (Host.gather gather_S8_S31x1_S31_n_0_n_n_0_1_1 (w_v12 m) (wrapIdx (w_v19 m))) (Host.gather gather_S8_S31x1_S31_n_0_n_n_0_1_1 (w_v11 m) (wrapIdx (w_v19 m)))) := by
  unfold wrapIdx w_v43 w_v2 w_v19 w_v18 w_v12 w_v11 V; after_reads_simp
theorem eq_v53 : w_v53 m = Host.gather gather_S8_S31x1_S31_n_0_n_n_0_1_1 (w_v1 m) (wrapIdx (w_v19 m)) := by
  unfold wrapIdx w_v53 w_v1 w_v19 V; after_reads_simp
theorem eq_v54 : w_v54 m = extui 32 (cmpi .slt (iotaInDim S31 32 0) (broadcastInDim S31 ![] bcast_S_S31 (w_v14 m))) natLt_1_32 := by
  unfold w_v54 w_v14 V; after_reads_simp

end Cert.KernelIdeal.Hand

end
-- ==== Proof.Ideal.Tables.lean ====
/- The kernel's tables, read as natural numbers of the work plan (Proof/Plan.lean). -/
module

public import proofs.«01_k».proof.Proof.Ideal.Words
public import proofs.«01_k».proof.Proof.Plan
public import Idealize.ShloMosaic.Lib.Routing.Words
public import Idealize.ShloMosaic.Lib.Routing.OpsSearch
public import Idealize.ShloMosaic.Lib.Routing.OpsPair
public import Idealize.ShloMosaic.Lib.StableHlo.Predicate

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.ShloMosaic.Routing
open Idealize.ShloMosaic.StableHlo.Predicate
open Ragged

variable {F : FTy → Type} [FloatOps F]
variable (m : (ℓ : Loc nD τ sig) → Buf (Elt F) ℓ)

/-- The group sizes the launch memory holds are `s`, and they add up to the number of rows. -/
structure Sizes (s : ℕ → ℕ) : Prop where
  at_ : ∀ g : Fin 8, w_arg2 m (ix1 g) = BitVec.ofNat 32 (s g.val)
  sum_ : pre s 8 = 12288

theorem ofNat_sub {a b : ℕ} (h : b ≤ a) : BitVec.ofNat 32 a - BitVec.ofNat 32 b = BitVec.ofNat 32 (a - b) := by
  apply BitVec.eq_of_toNat_eq
  rw [BitVec.toNat_sub, BitVec.toNat_ofNat, BitVec.toNat_ofNat, BitVec.toNat_ofNat]
  omega
theorem ofNat_add (a b : ℕ) : BitVec.ofNat 32 a + BitVec.ofNat 32 b = BitVec.ofNat 32 (a + b) := by
  apply BitVec.eq_of_toNat_eq
  rw [BitVec.toNat_add, BitVec.toNat_ofNat, BitVec.toNat_ofNat, BitVec.toNat_ofNat]
  omega
theorem toNat_of_lt {a : ℕ} (h : a < 2 ^ 31) : (BitVec.ofNat 32 a).toNat = a := by
  rw [BitVec.toNat_ofNat]; omega

variable {m} {s : ℕ → ℕ} (H : Sizes m s)
include H

theorem pre_bound {g : ℕ} (hg : g ≤ 8) : pre s g ≤ 12288 := pre_le H.sum_ g hg
theorem items_le {g : ℕ} (hg : g ≤ 8) : pre (tiles s) g ≤ 31 := (pre_mono _ hg).trans (total_le H.sum_)

theorem v0_at (g : Fin 8) : w_v0 m (ix1 g) = BitVec.ofNat 32 (pre s (g.val + 1)) := by
  rw [eq_v0, ← sum_range]
  exact cumsum1 rfl _ s H.at_ _ rfl _ _ g

theorem v1_at (g : Fin 8) : w_v1 m (ix1 g) = BitVec.ofNat 32 (pre s g.val) := by
  rw [eq_v1, subi_ap, v0_at H, H.at_, ofNat_sub (by show _ ≤ pre s g.val + s g.val; omega)]
  congr 1; show pre s g.val + s g.val - _ = _; omega

theorem v2_at (g : Fin 8) : w_v2 m (ix1 g) = BitVec.ofNat 32 (first s g.val) := by
  have := pre_bound H (show g.val ≤ 8 by omega)
  rw [eq_v2]
  exact pyDiv_ap _ _ _ _ (v1_at H g) rfl (by omega) (by decide) (by decide)

theorem v5_at (g : Fin 8) (hg : 0 < s g.val) : w_v5 m (ix1 g) = BitVec.ofNat 32 (last s g.val) := by
  have := pre_bound H (show g.val + 1 ≤ 8 by omega)
  rw [eq_v5]
  refine pyDiv_ap _ _ _ _ (a := pre s (g.val + 1) - 1) ?_ rfl (by omega) (by decide) (by decide)
  rw [subi_ap, v0_at H, bc0]
  exact ofNat_sub (show 1 ≤ pre s g.val + s g.val by omega)

theorem v11_at (g : Fin 8) : w_v11 m (ix1 g) = BitVec.ofNat 32 (tiles s g.val) := by
  have h1 := pre_bound H (show g.val + 1 ≤ 8 by omega)
  have h2 : s g.val ≤ pre s (g.val + 1) := by show _ ≤ pre s g.val + s g.val; omega
  rw [eq_v11]
  change Scalar.select (IntOp.cmpi .sgt (w_arg2 m (ix1 g)) 0#32) (w_v5 m (ix1 g) - w_v2 m (ix1 g) + 1#32) 0#32 = _
  rw [H.at_ g]
  have hc : IntOp.cmpi .sgt (BitVec.ofNat 32 (s g.val)) 0#32 = 1#1 ↔ 0 < s g.val := by
    rw [sgt_iff_toNat (by rw [toNat_of_lt (by omega)]; omega) (by decide), show (BitVec.ofNat 32 (s g.val)).toNat = s g.val from toNat_of_lt (by omega)]
    exact Iff.rfl
  by_cases hg : 0 < s g.val
  · have : tiles s g.val = last s g.val - first s g.val + 1 := if_pos hg
    rw [hc.2 hg, this, v5_at H g hg, v2_at H g, ofNat_sub (first_le_last s hg)]
    exact ofNat_add _ _
  · have : tiles s g.val = 0 := if_neg hg
    rw [this]
    unfold Scalar.select
    exact if_neg (fun q => hg (hc.1 q))

theorem v12_at (g : Fin 8) : w_v12 m (ix1 g) = BitVec.ofNat 32 (pre (tiles s) (g.val + 1)) := by
  rw [eq_v12, ← sum_range]
  exact cumsum1 rfl _ (tiles s) (v11_at H) _ rfl _ _ g

theorem v14_at (i : S_.Idx) : w_v14 m i = BitVec.ofNat 32 (total s) := by
  rw [eq_v14]
  refine (shapeCast_apply _ _ _ (ix1 (0 : Fin 1)) ?_).trans ?_
  · have h1 : (S_.rowMajor i).val < 1 := (S_.rowMajor i).isLt
    rw [Shape.rowMajor_val_one]; show (0 : ℕ) = _; omega
  · rw [slice1 7 _ _ (0 : Fin 1) (by decide)]
    exact v12_at H ⟨7, by decide⟩

theorem v18_at (p : Fin 31) : w_v18 m (ix1 p) = BitVec.ofNat 32 (item s p.val) := by
  have h1 := total_le H.sum_
  have h0 := total_pos H.sum_
  have hp := p.isLt
  rw [eq_v18]
  change IntOp.minsi (BitVec.ofNat 32 p.val) (broadcastInDim S31 ![] bcast_S_S31 (subi (w_v14 m) (constantI S_ 32 1#32)) (ix1 p)) = _
  rw [bc0, subi_ap, v14_at H]
  change IntOp.minsi (BitVec.ofNat 32 p.val) (BitVec.ofNat 32 (total s) - BitVec.ofNat 32 1) = _
  rw [ofNat_sub h0]
  unfold IntOp.minsi item
  rw [slt_ofNat32 (show p.val < 2 ^ 31 by omega) (show total s - 1 < 2 ^ 31 by omega)]
  by_cases h : p.val < total s - 1
  · rw [if_pos (decide_eq_true h), Nat.min_eq_left (by omega)]
  · rw [if_neg (by rw [decide_eq_false h]; decide), Nat.min_eq_right (by omega)]

theorem v19_at (p : Fin 31) : w_v19 m (ix1 p) = BitVec.ofNat 32 (expert s p.val) := by
  rw [eq_v19]
  apply BitVec.eq_of_toNat_eq
  have h8 := expert_lt H.sum_ p.val
  have hi := item_lt H.sum_ p.val
  have ht := total_le H.sum_
  rw [toNat_reduce_count_rows (by decide) _ natLt_1_32 reducesTo_S8x31_S31_d0 h_S_ (ix1 p), toNat_of_lt (by omega)]
  unfold expert
  rw [← card_filter_fin 8]
  refine congrArg Finset.card (Finset.filter_congr fun q _ => ?_)
  have hq := items_le H (show q.val + 1 ≤ 8 by omega)
  change IntOp.cmpi .sle (broadcastInDim S8x31 ![0, 1] bcast_S8x1_S8x31_0_1 (broadcastInDim S8x1 ![0] bcast_S8_S8x1_0 (w_v12 m)) (ij q p))
    (broadcastInDim S8x31 ![0, 1] bcast_S1x31_S8x31_0_1 (broadcastInDim S1x31 ![1] bcast_S31_S1x31_1 (w_v18 m)) (ij q p)) = 1#1 ↔ _
  rw [bcast_rows, bcast_cols, ofFin_eq_ix1, ofFin_eq_ix1, v12_at H, v18_at H,
    sle_iff_toNat (by rw [toNat_of_lt (by omega)]; omega) (by rw [toNat_of_lt (by omega)]; omega), toNat_of_lt (by omega), toNat_of_lt (by omega)]

theorem wrap_at (p : Fin 31) : wrapIdx (w_v19 m) (ix2 p (0 : Fin 1)) = BitVec.ofNat 32 (expert s p.val) := by
  have h8 := expert_lt H.sum_ p.val
  unfold wrapIdx
  rw [bcCol]
  change Scalar.select (IntOp.cmpi .slt (w_v19 m (ix1 p)) (broadcastInDim S31 ![] bcast_S_S31 (constantI S_ 32 0#32) (ix1 p)))
    (w_v19 m (ix1 p) + broadcastInDim S31 ![] bcast_S_S31 (constantI S_ 32 8#32) (ix1 p)) (w_v19 m (ix1 p)) = _
  rw [bc0, v19_at H]
  exact wrap_of_lt _ _ (by rw [toNat_of_lt (by omega)]; omega)

/-- A take by the item's group reads the entry of that group. -/
theorem take_at (x : IVec S8 32) (p : Fin 31) : Host.gather gather_S8_S31x1_S31_n_0_n_n_0_1_1 x (wrapIdx (w_v19 m)) (ix1 p) = x (ix1 ⟨expert s p.val, expert_lt H.sum_ p.val⟩) :=
  take_ap gather_S8_S31x1_S31_n_0_n_n_0_1_1 rfl rfl rfl rfl x _ p (expert_lt H.sum_ p.val) (by have := expert_lt H.sum_ p.val; omega) (wrap_at H p)

theorem v43_at (p : Fin 31) : w_v43 m (ix1 p) = BitVec.ofNat 32 (tile s p.val) := by
  obtain ⟨h1, h2, h3⟩ := expert_spec H.sum_ p.val
  rw [eq_v43, subi_ap, addi_ap, subi_ap, take_at H, take_at H, take_at H, v2_at H, v12_at H, v11_at H, v18_at H]
  have h4 : pre (tiles s) (expert s p.val + 1) = pre (tiles s) (expert s p.val) + tiles s (expert s p.val) := rfl
  rw [ofNat_add, ofNat_sub (show tiles s (expert s p.val) ≤ pre (tiles s) (expert s p.val + 1) by omega),
    show pre (tiles s) (expert s p.val + 1) - tiles s (expert s p.val) = pre (tiles s) (expert s p.val) by omega, ofNat_sub (by omega)]
  rfl

theorem v53_at (p : Fin 31) : w_v53 m (ix1 p) = BitVec.ofNat 32 (pre s (expert s p.val)) := by
  rw [eq_v53, take_at H, v1_at H]

theorem v54_at (p : Fin 31) : w_v54 m (ix1 p) = BitVec.ofNat 32 (valid s p.val) := by
  have ht := total_le H.sum_
  have hp := p.isLt
  rw [eq_v54]
  change (IntOp.cmpi .slt (BitVec.ofNat 32 p.val) (broadcastInDim S31 ![] bcast_S_S31 (w_v14 m) (ix1 p))).setWidth 32 = _
  rw [bc0, v14_at H]
  unfold IntOp.cmpi
  dsimp only
  rw [slt_ofNat32 (show p.val < 2 ^ 31 by omega) (show total s < 2 ^ 31 by omega)]
  exact setWidth_ofBool _

end Cert.KernelIdeal.Hand

end
-- ==== Proof.Ideal.Ok.lean ====
/- The kernel's side condition on its tables, proved from the group sizes; the group sizes, read off the precondition. -/
module

public import proofs.«01_k».proof.Proof.Ideal.Frame
public import proofs.«01_k».proof.Proof.Ideal.Tables
public import proofs.«01_k».proof.Pre_sizes_fit
public import Idealize.ShloMosaic.Lib.ReduceAll
public import Idealize.ShloMosaic.Lib.PairWhole

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.ShloMosaic.Routing
open Idealize.ShloMosaic.StableHlo.Predicate
open Ragged

variable {F : FTy → Type} [FloatOps F]
variable (m : (ℓ : Loc nD τ sig) → Buf (Elt F) ℓ)

/-- The grid's one coordinate, as a number below 31. -/
abbrev pt (i : grid0.Coords) : Fin 31 := ⟨(i 0).val, (i 0).isLt⟩

/-- The single element a unit rectangle of a table names, at the point's own offset. -/
theorem point_eq (i : grid0.Coords) (h : ∀ a, (k0_off1 i) a + S1.size a ≤ S31.size a) (hz : 0 < (Rect.unit (s := S31) (k0_off1 i) S1.size h).shape.numel) :
    (Rect.unit (s := S31) (k0_off1 i) S1.size h).emb (Shape.Idx.first hz) = (ix1 (pt i) : S31.Idx) := by
  funext a
  match a with
  | ⟨0, _⟩ =>
    apply Fin.ext
    have hi : (i 0).val < 31 := (i 0).isLt
    show (k0_off1 i) 0 + 1 * 0 = (i 0).val
    show (BitVec.ofNat 32 (i 0).val).toNat + 1 * 0 = (i 0).val
    rw [BitVec.toNat_ofNat]; omega

theorem tileW_eq (hO : Ok m) (c : Dev nD) (t : Fin (cfgM m hO).N) : tileW m hO c t = w_v43 m (ix1 (pt (grid0.coords t))) :=
  congrArg (w_v43 m) (point_eq (grid0.coords t) _ _)
theorem startW_eq (hO : Ok m) (c : Dev nD) (t : Fin (cfgM m hO).N) : startW m hO c t = w_v53 m (ix1 (pt (grid0.coords t))) :=
  congrArg (w_v53 m) (point_eq (grid0.coords t) _ _)
theorem validW_eq (hO : Ok m) (c : Dev nD) (t : Fin (cfgM m hO).N) : validW m hO c t = w_v54 m (ix1 (pt (grid0.coords t))) :=
  congrArg (w_v54 m) (point_eq (grid0.coords t) _ _)

theorem at_expert (i : grid0.Coords) : ((tbl m).at 0 (Rect.unit (s := S31) ![(Scalar.indexCast (BitVec.ofNat 32 (i 0).val) : Index).toNat] S1.size (k0_off1_inb i)) numel1_S1 : BitVec 32) = w_v19 m (ix1 (pt i)) :=
  congrArg (w_v19 m) (point_eq i _ _)
theorem at_tile (i : grid0.Coords) : ((tbl m).at 1 (Rect.unit (s := S31) ![(Scalar.indexCast (BitVec.ofNat 32 (i 0).val) : Index).toNat] S1.size (k0_off1_inb i)) numel1_S1 : BitVec 32) = w_v43 m (ix1 (pt i)) :=
  congrArg (w_v43 m) (point_eq i _ _)

variable {m} {s : ℕ → ℕ} (H : Sizes m s)
include H

theorem tile_bound (i : grid0.Coords) : tile s (i 0).val < 24 := tile_lt H.sum_ _
theorem expert_bound (i : grid0.Coords) : expert s (i 0).val < 8 := expert_lt H.sum_ _

theorem ix_0 (i : grid0.Coords) : cc0_transform_0 (F := F) k0_off1_inb numel1_S1 (tbl m) i = ![tile s (i 0).val, 0] := by
  unfold cc0_transform_0
  dsimp only
  rw [at_tile, v43_at H, toNat_of_lt (by have := tile_bound H i; show tile s (i 0).val < _; omega)]
  rfl
theorem ix_1 (i : grid0.Coords) : cc0_transform_1 (F := F) k0_off1_inb numel1_S1 (tbl m) i = ![tile s (i 0).val, 0] := ix_0 H i
theorem ix_4 (i : grid0.Coords) : cc0_transform_4 (F := F) k0_off1_inb numel1_S1 (tbl m) i = ![tile s (i 0).val, 0] := ix_0 H i
theorem ix_2 (i : grid0.Coords) : cc0_transform_2 (F := F) k0_off1_inb numel1_S1 (tbl m) i = ![expert s (i 0).val, 0, 0] := by
  unfold cc0_transform_2
  dsimp only
  rw [at_expert, v19_at H, toNat_of_lt (by have := expert_bound H i; show expert s (i 0).val < _; omega)]
  rfl
theorem ix_3 (i : grid0.Coords) : cc0_transform_3 (F := F) k0_off1_inb numel1_S1 (tbl m) i = ![expert s (i 0).val, 0, 0] := ix_2 H i

/-- At sizes that fit, every window's block lies inside its array, on whole words. -/
theorem ok_of_sizes : Ok m := by
  have hw2 : ∀ {k : ℕ} (e : EltTy) (hk : e.packing ∣ 512) (f : Fin 2 → ℕ) (hf : f = ![k, 0]) (h : ∀ a, (f a + 1) * S512x2816.size a ≤ S12288x2816.size a),
      (Rect.block (s := S12288x2816) S512x2816.size f h).WholeWords e.packing := by
    intro k e hk f hf h
    subst hf
    exact (Rect.packedRows_of_rowAxis _ _ (by decide : 2 ≤ S12288x2816.rank) (Dvd.dvd.mul_left hk k) hk rfl).wholeWords
  refine ⟨fun i => ?_, fun i => ?_, fun i => ?_, fun i => ?_, fun i => ?_⟩
  · have hb := tile_bound H i
    refine ⟨?_, .inr (hw2 _ (by decide) _ (ix_0 H i) _)⟩
    rw [ix_0 H i]; intro a
    match a with
    | ⟨0, _⟩ => show (tile s (i 0).val + 1) * 512 ≤ 12288; omega
    | ⟨1, _⟩ => show (0 + 1) * 2816 ≤ 2816; decide
  · have hb := tile_bound H i
    refine ⟨?_, .inl rfl⟩
    rw [ix_1 H i]; intro a
    match a with
    | ⟨0, _⟩ => show (tile s (i 0).val + 1) * 512 ≤ 12288; omega
    | ⟨1, _⟩ => show (0 + 1) * 1 ≤ 1; decide
  · have hb := expert_bound H i
    have hx := ix_2 H i
    revert hx
    generalize cc0_transform_2 (F := F) k0_off1_inb numel1_S1 (tbl m) i = f
    rintro rfl
    refine ⟨?_, .inr (.inr ⟨by decide, rfl, rfl, rfl⟩)⟩
    intro a
    match a with
    | ⟨0, _⟩ => show (expert s (i 0).val + 1) * 1 ≤ 8; omega
    | ⟨1, _⟩ => show (0 + 1) * 2816 ≤ 2816; decide
    | ⟨2, _⟩ => show (0 + 1) * 2816 ≤ 2816; decide
  · have hb := expert_bound H i
    refine ⟨?_, .inl rfl⟩
    rw [ix_3 H i]; intro a
    match a with
    | ⟨0, _⟩ => show (expert s (i 0).val + 1) * 1 ≤ 8; omega
    | ⟨1, _⟩ => show (0 + 1) * 1 ≤ 1; decide
    | ⟨2, _⟩ => show (0 + 1) * 2816 ≤ 2816; decide
  · have hb := tile_bound H i
    refine ⟨?_, .inr (hw2 _ (by decide) _ (ix_4 H i) _)⟩
    rw [ix_4 H i]; intro a
    match a with
    | ⟨0, _⟩ => show (tile s (i 0).val + 1) * 512 ≤ 12288; omega
    | ⟨1, _⟩ => show (0 + 1) * 2816 ≤ 2816; decide

omit H

/-- The group sizes a vector of eight words holds. -/
def sizeOf (x : IVec S8 32) (g : ℕ) : ℕ := if h : g < 8 then (x (ix1 ⟨g, h⟩)).toNat else 0

theorem sizeOf_at (x : IVec S8 32) (g : Fin 8) : x (ix1 g) = BitVec.ofNat 32 (sizeOf x g.val) := by
  unfold sizeOf; rw [dif_pos g.isLt]; exact (BitVec.ofNat_toNat ..).symm ▸ by simp

/-- The precondition says the group sizes add up to the number of rows. -/
theorem sum_of_pre [Cert.Pre_sizes_fit.Facts] (a0 : FVec F Cert.Pre_sizes_fit.S12288x2816 .fp8e4m3) (a1 : FVec F Cert.Pre_sizes_fit.S12288x1 .f32)
    (x : IVec S8 32) (a3 : FVec F Cert.Pre_sizes_fit.S8x2816x2816 .fp8e4m3) (a4 : FVec F Cert.Pre_sizes_fit.S8x2816 .f32)
    (h : Cert.Pre_sizes_fit.fn (F := F) a0 a1 x a3 a4 = fun _ => 1#1) : pre (sizeOf x) 8 = 12288 := by
  have h0 := congrFun h ValueIdx.ix0
  simp only [Cert.Pre_sizes_fit.fn] at h0
  obtain ⟨hA, hB⟩ := IntOp.andi_eq_one.1 h0
  have hle : ∀ g : Fin 8, sizeOf x g.val ≤ 12288 := fun g => by
    have hg := Host.reduce_andi_all _ _ _ _ _ hA (ix1 g)
    obtain ⟨h1, h2⟩ := IntOp.andi_eq_one.1 hg
    have h1' : IntOp.cmpi .sge (x (ix1 g)) 0#32 = 1#1 := h1
    have h2' : IntOp.cmpi .sle (x (ix1 g)) 12288#32 = 1#1 := h2
    unfold sizeOf; rw [dif_pos g.isLt]
    change (x (ix1 g)).toNat ≤ 12288
    generalize x (ix1 g) = w at h1' h2'
    rw [show IntOp.cmpi .sge w 0#32 = BitVec.ofBool ((0#32).sle w) from rfl, ofBool_eq_one_iff, BitVec.sle_iff_toInt_le] at h1'
    rw [show IntOp.cmpi .sle w 12288#32 = BitVec.ofBool (w.sle 12288#32) from rfl, ofBool_eq_one_iff, BitVec.sle_iff_toInt_le] at h2'
    rw [show (0#32 : BitVec 32).toInt = 0 from rfl] at h1'
    rw [show (12288#32 : BitVec 32).toInt = 12288 from rfl] at h2'
    rw [BitVec.toInt_eq_toNat_cond] at h1' h2'
    have := w.isLt
    split at h1' <;> split at h2' <;> omega
  have hs := (reduce_sum x (sizeOf x) (sizeOf_at x) Cert.Pre_sizes_fit.Facts.reducesTo_S8_S_d0 Cert.Pre_sizes_fit.Facts.h_S_).symm.trans (cmpi_eq_iff.1 hB)
  rw [sum_range] at hs
  have hb : pre (sizeOf x) 8 ≤ 8 * 12288 := by
    have e := fun g (hg : g < 8) => hle ⟨g, hg⟩
    show 0 + _ + _ + _ + _ + _ + _ + _ + _ ≤ _
    have := e 0 (by decide); have := e 1 (by decide); have := e 2 (by decide); have := e 3 (by decide)
    have := e 4 (by decide); have := e 5 (by decide); have := e 6 (by decide); have := e 7 (by decide)
    simp only at *
    omega
  have := congrArg BitVec.toNat hs
  rw [toNat_of_lt (by omega)] at this
  exact this

/-- So the launch memory's sizes fit. -/
theorem sizes_of_pre [Cert.Pre_sizes_fit.Facts] (a0 : FVec F Cert.Pre_sizes_fit.S12288x2816 .fp8e4m3) (a1 : FVec F Cert.Pre_sizes_fit.S12288x1 .f32)
    (a3 : FVec F Cert.Pre_sizes_fit.S8x2816x2816 .fp8e4m3) (a4 : FVec F Cert.Pre_sizes_fit.S8x2816 .f32)
    (h : Cert.Pre_sizes_fit.fn (F := F) a0 a1 (w_arg2 m) a3 a4 = fun _ => 1#1) : Sizes m (sizeOf (w_arg2 m)) :=
  ⟨sizeOf_at _, sum_of_pre a0 a1 _ a3 a4 h⟩

/-- The same, of the argument arrays as the launch memory holds them. -/
theorem sizes_of_args [Cert.Pre_sizes_fit.Facts]
    (h : ∀ c : Dev nD, Cert.Pre_sizes_fit.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Sizes m (sizeOf (w_arg2 m)) :=
  sizes_of_pre _ _ _ _ (by rw [eq_arg2]; exact h 0)

end Cert.KernelIdeal.Hand

end
-- ==== Proof.Ideal.Unchanged.lean ====
/- The frame: the kernel terminates and its argument arrays end as they began. -/
module

public import proofs.«01_k».proof.Proof.Ideal.Frame
public import proofs.«01_k».proof.Proof.Ideal.Words

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays -/

theorem V_main_arg0 (c : Dev nD) : V m c main_arg0 = m ((c.tc : Thread nD τ).loc main_arg0) := by
  unfold V; after_reads_simp
theorem V_main_arg1 (c : Dev nD) : V m c main_arg1 = m ((c.tc : Thread nD τ).loc main_arg1) := by
  unfold V; after_reads_simp
theorem V_main_arg2 (c : Dev nD) : V m c main_arg2 = m ((c.tc : Thread nD τ).loc main_arg2) := by
  unfold V; after_reads_simp
theorem V_main_arg3 (c : Dev nD) : V m c main_arg3 = m ((c.tc : Thread nD τ).loc main_arg3) := by
  unfold V; after_reads_simp
theorem V_main_arg4 (c : Dev nD) : V m c main_arg4 = m ((c.tc : Thread nD τ).loc main_arg4) := by
  unfold V; after_reads_simp

set_option maxHeartbeats 4000000 in
/-- Where the launch ends, the argument arrays are as they began. -/
theorem args_of (hO : Ok m) {r : PUnit × MemSt nD τ sig (Elt F)}
    (h : Pipeline.RDat.FramePost ((Pipeline.pin pcfgs fun _ => adm m hO) 0) (fun c => rdat m hO c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 0 rfl).trans (V_main_arg0 m c),
    (Pipeline.RDat.FramePost.arr_in h c 1 rfl).trans (V_main_arg1 m c),
    ((h c).2 main_arg2 (by decide : main_arg2 ∈ Pipeline.restRefs sig spec0)).trans (V_main_arg2 m c),
    (Pipeline.RDat.FramePost.arr_in h c 2 rfl).trans (V_main_arg3 m c),
    ((h c).2 main_arg4 (by decide : main_arg4 ∈ Pipeline.restRefs sig spec0)).trans (V_main_arg4 m c)⟩

/-- The frame: the kernel terminates without fault, its arguments unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m hO h.1, h.2⟩) (run_main_quiescent m ρ hO)

end Cert.KernelIdeal.Hand

end
-- ==== Proof.Ideal.Chunk.lean ====
/- What one work item leaves at one element of the output block, over the extended reals. -/
module

public import proofs.«01_k».proof.Proof.Ideal.Step
public import Idealize.ShloMosaic.Lib.Pointwise
public import Idealize.ShloMosaic.Lib.Pipeline.ValueKit.Tiles

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise

/-- The scaled product at row `r` and column `c` of a block: the row's product with the weights' column, times the row's scale,
    times the column's scale. -/
def prodAt (x5 : Vec Ideal S512x2816 .fp8e4m3) (x6 : Vec Ideal S512x1 .f32) (x7 : Vec Ideal S1x2816x2816 .fp8e4m3) (x8 : Vec Ideal S1x1x2816 .f32)
    (r : Fin 512) (c : Fin 2816) : EReal :=
  (∑ k : Fin 2816, (x5 (ix2 r k) : EReal) * (x7 (ix3 0 k c) : EReal)) * (x6 (ix2 r 0) : EReal) * (x8 (ix3 0 0 c) : EReal)

/-- Whether row `r` of the block takes the item's product. -/
def rowBit (v6 v8 : BitVec 32) (r : Fin 512) : BitVec 1 := IntOp.cmpi .sge (BitVec.ofNat 32 r.val) (v6 - v8 * 512#32)

/-- One chunk's store at an element. -/
theorem chunk_apply (v6 v8 : BitVec 32) (x5 : Vec Ideal S512x2816 .fp8e4m3) (x6 : Vec Ideal S512x1 .f32) (w : Vec Ideal S1x2816x256 .fp8e4m3)
    (s : Vec Ideal S1x1x256 .f32) (o : Vec Ideal S512x256 .bf16) (r : Fin 512) (l : Fin 256) :
    chunk (F := Ideal) v6 v8 x5 x6 w s o (ix2 r l) = Scalar.select (rowBit v6 v8 r)
      ((∑ k : Fin 2816, (x5 (ix2 r k) : EReal) * (w (ix3 0 k l) : EReal)) * (x6 (ix2 r 0) : EReal) * (s (ix3 0 0 l) : EReal)) (o (ix2 r l)) := by
  unfold chunk k0_pay1 k0_pay2 rowBit
  pointwise
  rfl

/-- One chunk's store, where its rectangle holds row `r` and column `c` of the block. -/
theorem chunk_at (v6 v8 : BitVec 32) (x5 : Vec Ideal S512x2816 .fp8e4m3) (x6 : Vec Ideal S512x1 .f32) (x7 : Vec Ideal S1x2816x2816 .fp8e4m3)
    (x8 : Vec Ideal S1x1x2816 .f32) (x9 : Vec Ideal S512x2816 .bf16) (o : ℕ) (h9 : ∀ a, (![0, o] : Fin 2 → ℕ) a + S512x256.size a ≤ S512x2816.size a)
    (h7 : ∀ a, (![0, 0, o] : Fin 3 → ℕ) a + S1x2816x256.size a ≤ S1x2816x2816.size a) (h8 : ∀ a, (![0, 0, o] : Fin 3 → ℕ) a + S1x1x256.size a ≤ S1x1x2816.size a)
    (r : Fin 512) (c : Fin 2816) :
    View.TileAt (Val := Elt Ideal) (S := S512x2816) (e := .bf16) (ix2 r c) ![0, o] S512x256.size
      (chunk (F := Ideal) v6 v8 x5 x6 (View.ld (Val := Elt Ideal) x7 (Rect.unit ![0, 0, o] S1x2816x256.size h7))
        (View.ld (Val := Elt Ideal) x8 (Rect.unit ![0, 0, o] S1x1x256.size h8)) (View.ld (Val := Elt Ideal) x9 (Rect.unit ![0, o] S512x256.size h9)))
      (Scalar.select (rowBit v6 v8 r) (prodAt x5 x6 x7 x8 r c) (x9 (ix2 r c))) := by
  intro x hx
  have h0 := hx 0
  have h1 := hx 1
  change r.val = 0 + (x 0).val at h0
  change c.val = o + (x 1).val at h1
  rw [show x = ix2 (⟨r.val, r.isLt⟩ : Fin 512) (⟨c.val - o, by have := (x 1).isLt; change (x 1).val < 256 at this; omega⟩ : Fin 256) from by
    funext a
    match a with
    | ⟨0, _⟩ => exact Fin.ext (by show (x 0).val = r.val; omega)
    | ⟨1, _⟩ => exact Fin.ext (by show (x 1).val = c.val - o; omega)]
  rw [chunk_apply]
  have e7 : ∀ k : Fin 2816, View.ld (Val := Elt Ideal) x7 (Rect.unit ![0, 0, o] S1x2816x256.size h7) (ix3 0 k (⟨c.val - o, by have := (x 1).isLt; change (x 1).val < 256 at this; omega⟩ : Fin 256)) = x7 (ix3 0 k c) := fun k =>
    View.ld_unit_apply_of _ _ _ _ _ _ (fun a => by
      match a with
      | ⟨0, _⟩ => rfl
      | ⟨1, _⟩ => exact (Nat.zero_add _).symm
      | ⟨2, _⟩ => show c.val = o + (c.val - o); omega)
  have e8 : View.ld (Val := Elt Ideal) x8 (Rect.unit ![0, 0, o] S1x1x256.size h8) (ix3 0 0 (⟨c.val - o, by have := (x 1).isLt; change (x 1).val < 256 at this; omega⟩ : Fin 256)) = x8 (ix3 0 0 c) :=
    View.ld_unit_apply_of _ _ _ _ _ _ (fun a => by
      match a with
      | ⟨0, _⟩ => rfl
      | ⟨1, _⟩ => rfl
      | ⟨2, _⟩ => show c.val = o + (c.val - o); omega)
  have e9 : View.ld (Val := Elt Ideal) x9 (Rect.unit ![0, o] S512x256.size h9) (ix2 (⟨r.val, r.isLt⟩ : Fin 512) (⟨c.val - o, by have := (x 1).isLt; change (x 1).val < 256 at this; omega⟩ : Fin 256)) = x9 (ix2 r c) :=
    View.ld_unit_apply_of _ _ _ _ _ _ (fun a => by
      match a with
      | ⟨0, _⟩ => exact (Nat.zero_add _).symm
      | ⟨1, _⟩ => show c.val = o + (c.val - o); omega)
  rw [e8, e9]
  simp only [e7]
  rfl

/-- A real work item's step at row `r` and column `c`: the scaled product where the row takes it, the old element elsewhere. -/
theorem stepA_apply (v6 v8 : BitVec 32) (x5 : Vec Ideal S512x2816 .fp8e4m3) (x6 : Vec Ideal S512x1 .f32) (x7 : Vec Ideal S1x2816x2816 .fp8e4m3)
    (x8 : Vec Ideal S1x1x2816 .f32) (x9 : Vec Ideal S512x2816 .bf16) (r : Fin 512) (c : Fin 2816) :
    stepA (F := Ideal) v6 v8 x5 x6 x7 x8 x9 (ix2 r c) = Scalar.select (rowBit v6 v8 r) (prodAt x5 x6 x7 x8 r c) (x9 (ix2 r c)) := by
  unfold stepA
  refine View.canon_eq_of_allAt _ _ _ (cover_chunks _ _ _ _ _ _ _ _ _ _ _ _) ?_
  iterate 11 refine View.allAt_cons_unit _ _ _ _ _ (chunk_at v6 v8 x5 x6 x7 x8 x9 _ _ _ _ r c) ?_
  exact View.allAt_nil _ _

end Cert.KernelIdeal.Hand

end
-- ==== Proof.Ideal.Blocks.lean ====
/- The input blocks at a grid point, element by element: the rows of the point's tile and the weights and scales of its group. -/
module

public import proofs.«01_k».proof.Proof.Ideal.Ok
public import proofs.«01_k».proof.Proof.Ideal.Unchanged
public import proofs.«01_k».proof.Proof.Ideal.Chunk

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise
open Ragged

variable {F : FTy → Type} [FloatOps F]
variable (m : (ℓ : Loc nD τ sig) → Buf (Elt F) ℓ)

/-- A table of eight rows as eight boxes of one row. -/
theorem scales_box (x : Vec F S8x2816 .f32) (g : Fin 8) (k : Fin 2816) :
    shapeCast S8x1x2816 x shapeCasts_S8x2816_S8x1x2816 (ix3 g 0 k) = x (ix2 g k) := by
  pointwise

/-- The column scales as the kernel is handed them, element by element. -/
theorem V_main_v55 (c : Dev nD) (g : Fin 8) (k : Fin 2816) :
    (V m c main_v55 : Vec F S8x1x2816 .f32) (ix3 g 0 k) = (m ((c.tc : Thread nD τ).loc main_arg4) : Vec F S8x2816 .f32) (ix2 g k) := by
  have h : (V m c main_v55 : Vec F S8x1x2816 .f32) = shapeCast S8x1x2816 (m ((c.tc : Thread nD τ).loc main_arg4) : Vec F S8x2816 .f32) shapeCasts_S8x2816_S8x1x2816 := by
    unfold V; after_reads_simp; rfl
  rw [h]
  exact scales_box _ g k

/-- The grid's one coordinate is the point's number. -/
theorem coord_val (t : Fin grid0.N) : ((grid0.coords t) 0).val = t.val := by
  have h := Pipeline.Grid.coords_val (G := grid0) t 0 (S := 1) (B := 31) rfl rfl
  have : t.val < 31 := t.isLt
  omega

theorem at_point {α : Type} {f : ℕ → α} {v : α} {t : Fin grid0.N} (h : v = f ((grid0.coords t) 0).val) : v = f t.val := by
  rw [h, coord_val]

section
attribute [local irreducible] tbl cc0_transform_0 cc0_transform_1 cc0_transform_2 cc0_transform_3 cc0_transform_4

theorem map_0 (hO : Ok m) (t : Fin grid0.N) : ((cfgM m hO).win 0).index t = cc0_transform_0 (F := F) k0_off1_inb numel1_S1 (tbl m) (grid0.coords t) := rfl
theorem map_1 (hO : Ok m) (t : Fin grid0.N) : ((cfgM m hO).win 1).index t = cc0_transform_1 (F := F) k0_off1_inb numel1_S1 (tbl m) (grid0.coords t) := rfl
theorem map_2 (hO : Ok m) (t : Fin grid0.N) : ((cfgM m hO).win 2).index t = cc0_transform_2 (F := F) k0_off1_inb numel1_S1 (tbl m) (grid0.coords t) := rfl
theorem map_3 (hO : Ok m) (t : Fin grid0.N) : ((cfgM m hO).win 3).index t = cc0_transform_3 (F := F) k0_off1_inb numel1_S1 (tbl m) (grid0.coords t) := rfl
theorem map_4 (hO : Ok m) (t : Fin grid0.N) : ((cfgM m hO).win 4).index t = cc0_transform_4 (F := F) k0_off1_inb numel1_S1 (tbl m) (grid0.coords t) := rfl

end

/-- Row `r` of the block at point `t`, as a row of the whole array. -/
def rowOf {s : ℕ → ℕ} (H : Sizes m s) (t : ℕ) (r : Fin 512) : Fin 12288 :=
  ⟨tile s t * 512 + r.val, by have := tile_lt H.sum_ t; have := r.isLt; omega⟩
/-- The group of point `t`. -/
def grpOf {s : ℕ → ℕ} (H : Sizes m s) (t : ℕ) : Fin 8 := ⟨expert s t, expert_lt H.sum_ t⟩

variable {m} {s : ℕ → ℕ} (H : Sizes m s) (hO : Ok m) (c : Dev nD) (t : Fin grid0.N)

section
include H

/-! The block index of each window at a point. -/

theorem index_0 : ((cfgM m hO).win 0).index t = ![tile s t.val, 0] :=
  (map_0 m hO t).trans (at_point (f := fun j => ![tile s j, 0]) (ix_0 H (grid0.coords t)))
theorem index_1 : ((cfgM m hO).win 1).index t = ![tile s t.val, 0] :=
  (map_1 m hO t).trans (at_point (f := fun j => ![tile s j, 0]) (ix_1 H (grid0.coords t)))
theorem index_2 : ((cfgM m hO).win 2).index t = ![expert s t.val, 0, 0] :=
  (map_2 m hO t).trans (at_point (f := fun j => ![expert s j, 0, 0]) (ix_2 H (grid0.coords t)))
theorem index_3 : ((cfgM m hO).win 3).index t = ![expert s t.val, 0, 0] :=
  (map_3 m hO t).trans (at_point (f := fun j => ![expert s j, 0, 0]) (ix_3 H (grid0.coords t)))
theorem index_4 : ((cfgM m hO).win 4).index t = ![tile s t.val, 0] :=
  (map_4 m hO t).trans (at_point (f := fun j => ![tile s j, 0]) (ix_4 H (grid0.coords t)))

end

section
attribute [local irreducible] V tbl cc0_transform_0 cc0_transform_1 cc0_transform_2 cc0_transform_3 cc0_transform_4 tile expert

/-! Each input block at an element, from the window's array as the pipeline finds it. -/

theorem blk_0 (r : Fin 512) (k : Fin 2816) :
    (iblk m hO c 0 t : Vec F S512x2816 .fp8e4m3) (ix2 r k) = (V m c main_arg0 : Vec F S12288x2816 .fp8e4m3) (ix2 (rowOf m H t.val r) k) := by
  have h := index_0 H hO t
  have e : (((cfgM m hO).win 0).rect t).emb (ix2 r k) = (ix2 (rowOf m H t.val r) k) := by
    funext a
    apply Fin.ext
    show ((cfgM m hO).win 0).index t a * S512x2816.size a + 1 * (ix2 r k a).val = (ix2 (rowOf m H t.val r) k a).val
    rw [h]
    match a with
    | ⟨0, _⟩ => show tile s t.val * 512 + 1 * r.val = tile s t.val * 512 + r.val; omega
    | ⟨1, _⟩ => show 0 * 2816 + 1 * k.val = k.val; omega
  exact congrArg (V m c main_arg0 : Vec F S12288x2816 .fp8e4m3) e

theorem blk_1 (r : Fin 512) :
    (iblk m hO c 1 t : Vec F S512x1 .f32) (ix2 r (0 : Fin 1)) = (V m c main_arg1 : Vec F S12288x1 .f32) (ix2 (rowOf m H t.val r) (0 : Fin 1)) := by
  have h := index_1 H hO t
  have e : (((cfgM m hO).win 1).rect t).emb (ix2 r (0 : Fin 1)) = (ix2 (rowOf m H t.val r) (0 : Fin 1)) := by
    funext a
    apply Fin.ext
    show ((cfgM m hO).win 1).index t a * S512x1.size a + 1 * (ix2 r (0 : Fin 1) a).val = (ix2 (rowOf m H t.val r) (0 : Fin 1) a).val
    rw [h]
    match a with
    | ⟨0, _⟩ => show tile s t.val * 512 + 1 * r.val = tile s t.val * 512 + r.val; omega
    | ⟨1, _⟩ => rfl
  exact congrArg (V m c main_arg1 : Vec F S12288x1 .f32) e

theorem blk_2 (k l : Fin 2816) :
    (iblk m hO c 2 t : Vec F S1x2816x2816 .fp8e4m3) (ix3 (0 : Fin 1) k l) = (V m c main_arg3 : Vec F S8x2816x2816 .fp8e4m3) (ix3 (grpOf m H t.val) k l) := by
  have h := index_2 H hO t
  have e : (((cfgM m hO).win 2).rect t).emb (ix3 (0 : Fin 1) k l) = (ix3 (grpOf m H t.val) k l) := by
    funext a
    apply Fin.ext
    show ((cfgM m hO).win 2).index t a * S1x2816x2816.size a + 1 * (ix3 (0 : Fin 1) k l a).val = (ix3 (grpOf m H t.val) k l a).val
    rw [h]
    match a with
    | ⟨0, _⟩ => show expert s t.val * 1 + 1 * 0 = expert s t.val; omega
    | ⟨1, _⟩ => show 0 * 2816 + 1 * k.val = k.val; omega
    | ⟨2, _⟩ => show 0 * 2816 + 1 * l.val = l.val; omega
  exact congrArg (V m c main_arg3 : Vec F S8x2816x2816 .fp8e4m3) e

theorem blk_3 (l : Fin 2816) :
    (iblk m hO c 3 t : Vec F S1x1x2816 .f32) (ix3 (0 : Fin 1) (0 : Fin 1) l) = (V m c main_v55 : Vec F S8x1x2816 .f32) (ix3 (grpOf m H t.val) (0 : Fin 1) l) := by
  have h := index_3 H hO t
  have e : (((cfgM m hO).win 3).rect t).emb (ix3 (0 : Fin 1) (0 : Fin 1) l) = (ix3 (grpOf m H t.val) (0 : Fin 1) l) := by
    funext a
    apply Fin.ext
    show ((cfgM m hO).win 3).index t a * S1x1x2816.size a + 1 * (ix3 (0 : Fin 1) (0 : Fin 1) l a).val = (ix3 (grpOf m H t.val) (0 : Fin 1) l a).val
    rw [h]
    match a with
    | ⟨0, _⟩ => show expert s t.val * 1 + 1 * 0 = expert s t.val; omega
    | ⟨1, _⟩ => rfl
    | ⟨2, _⟩ => show 0 * 2816 + 1 * l.val = l.val; omega
  exact congrArg (V m c main_v55 : Vec F S8x1x2816 .f32) e

end

end Cert.KernelIdeal.Hand

end
-- ==== Proof.Ideal.Invariant.lean ====
/- What the output block holds as the kernel walks its work items: after the item of a point, every row of the point's tile that
   lies before the end of the point's group holds its final value. -/
module

public import proofs.«01_k».proof.Proof.Ideal.Blocks
public import Idealize.ShloMosaic.Lib.Pipeline.ArrRel

@[expose] public section

set_option maxRecDepth 16384

noncomputable section

/-- The grouped product at row `r` and column `c`: the row of `x` times the column of its group's weights, times the row's scale,
    times the column's scale in the group; `s` lists the group sizes. -/
def Ragged.valAt (s : ℕ → ℕ) (x : Fin 12288 → Fin 2816 → EReal) (xs : Fin 12288 → EReal) (w : Fin 8 → Fin 2816 → Fin 2816 → EReal)
    (ws : Fin 8 → Fin 2816 → EReal) (r : Fin 12288) (c : Fin 2816) : EReal :=
  (∑ k : Fin 2816, x r k * w ⟨Ragged.gid s r.val % 8, Nat.mod_lt _ (by decide)⟩ k c) * xs r * ws ⟨Ragged.gid s r.val % 8, Nat.mod_lt _ (by decide)⟩ c

namespace Cert.KernelIdeal.Hand

open Cert.KernelIdeal.Gen
open Idealize.ShloMosaic Idealize.ShloMosaic.TcCoe Idealize.ShloMosaic.Tactic
open Idealize.ShloMosaic.Pointwise
open Ragged

/-- Whether a row of the block is at or after the first row of the group, in words. -/
theorem rowBit_eq (p t : ℕ) (hp : p ≤ 12288) (ht : t < 24) (r : Fin 512) :
    rowBit (BitVec.ofNat 32 p) (BitVec.ofNat 32 t) r = if p ≤ t * 512 + r.val then 1#1 else 0#1 := by
  have hr := r.isLt
  unfold rowBit
  rw [show ∀ a b : BitVec 32, IntOp.cmpi .sge a b = BitVec.ofBool (b.sle a) from fun _ _ => rfl]
  have key : ((BitVec.ofNat 32 p - BitVec.ofNat 32 t * 512#32).sle (BitVec.ofNat 32 r.val)) = decide (p ≤ t * 512 + r.val) := by
    rw [Bool.eq_iff_iff, BitVec.sle_iff_toInt_le, decide_eq_true_iff]
    simp only [BitVec.toInt_eq_toNat_cond, BitVec.toNat_sub, BitVec.toNat_mul, BitVec.toNat_ofNat]
    split <;> split <;> omega
  rw [key]
  split
  · next h => rw [decide_eq_true h]; rfl
  · next h => rw [decide_eq_false h]; rfl

/-- The body takes its product at a real item only. -/
theorem cond_valid (s : ℕ → ℕ) (j : ℕ) : k0_cond1 (BitVec.ofNat 32 (valid s j)) = 1#1 ↔ j < total s := by
  unfold valid
  split
  · next h => exact ⟨fun _ => h, fun _ => by decide⟩
  · next h => exact ⟨fun q => absurd q (by decide), fun q => absurd q h⟩

attribute [local irreducible] V tbl cc0_transform_0 cc0_transform_1 cc0_transform_2 cc0_transform_3 cc0_transform_4 tile expert outAt

variable {m : (ℓ : Loc nD τ sig) → Buf (Elt Ideal) ℓ} {s : ℕ → ℕ} (H : Sizes m s) (hO : Ok m) (c : Dev nD)

/-- The kernel's result at a row and a column, of its arguments as the launch memory holds them. -/
def goal (m : (ℓ : Loc nD τ sig) → Buf (Elt Ideal) ℓ) (s : ℕ → ℕ) (c : Dev nD) (r : Fin 12288) (l : Fin 2816) : EReal :=
  valAt s (fun r k => (m ((c.tc : Thread nD τ).loc main_arg0) : Vec Ideal S12288x2816 .fp8e4m3) (ix2 r k))
    (fun r => (m ((c.tc : Thread nD τ).loc main_arg1) : Vec Ideal S12288x1 .f32) (ix2 r (0 : Fin 1)))
    (fun g k l => (m ((c.tc : Thread nD τ).loc main_arg3) : Vec Ideal S8x2816x2816 .fp8e4m3) (ix3 g k l))
    (fun g l => (m ((c.tc : Thread nD τ).loc main_arg4) : Vec Ideal S8x2816 .f32) (ix2 g l)) r l

include H

/-- A point's product at a row of its own group is the result there. -/
theorem prod_eq (t : Fin grid0.N) (r : Fin 512) (l : Fin 2816)
    (h1 : pre s (expert s t.val) ≤ tile s t.val * 512 + r.val) (h2 : tile s t.val * 512 + r.val < pre s (expert s t.val + 1)) :
    prodAt (iblk m hO c 0 t) (iblk m hO c 1 t) (iblk m hO c 2 t) (iblk m hO c 3 t) r l = goal m s c (rowOf m H t.val r) l := by
  unfold prodAt
  rw [blk_1 H hO c t r, blk_3 H hO c t l, V_main_v55, V_main_arg1]
  simp only [blk_0 H hO c t, blk_2 H hO c t, V_main_arg0, V_main_arg3]
  unfold goal valAt
  have hg : (⟨gid s (rowOf m H t.val r).val % 8, Nat.mod_lt _ (by decide)⟩ : Fin 8) = grpOf m H t.val := by
    apply Fin.ext
    show gid s (tile s t.val * 512 + r.val) % 8 = expert s t.val
    rw [gid_eq s (expert_lt H.sum_ _) h1 h2]
    exact Nat.mod_eq_of_lt (expert_lt H.sum_ _)
  rw [hg]

/-- The words of the tables at a point, decoded. -/
theorem startW_at (t : Fin grid0.N) : startW m hO c t = BitVec.ofNat 32 (pre s (expert s t.val)) := by
  rw [startW_eq, v53_at H]; show BitVec.ofNat 32 (pre s (expert s ((grid0.coords t) 0).val)) = _; rw [coord_val]
theorem tileW_at (t : Fin grid0.N) : tileW m hO c t = BitVec.ofNat 32 (tile s t.val) := by
  rw [tileW_eq, v43_at H]; show BitVec.ofNat 32 (tile s ((grid0.coords t) 0).val) = _; rw [coord_val]
theorem validW_at (t : Fin grid0.N) : validW m hO c t = BitVec.ofNat 32 (valid s t.val) := by
  rw [validW_eq, v54_at H]; show BitVec.ofNat 32 (valid s ((grid0.coords t) 0).val) = _; rw [coord_val]

/-- Past the last item the output block stays. -/
theorem outAt_idle (t : Fin grid0.N) (h : total s ≤ t.val) (Y : Vec Ideal S512x2816 .bf16) : outAt m hO c t Y = Y := by
  rw [outAt]
  rw [validW_at H]
  exact if_neg fun q => absurd ((cond_valid s t.val).1 q) (by omega)

/-- At a real item, rows from the group's first row on take the product, rows before it stay. -/
theorem outAt_apply (t : Fin grid0.N) (h : t.val < total s) (Y : Vec Ideal S512x2816 .bf16) (r : Fin 512) (l : Fin 2816) :
    outAt m hO c t Y (ix2 r l) = if pre s (expert s t.val) ≤ tile s t.val * 512 + r.val
      then prodAt (iblk m hO c 0 t) (iblk m hO c 1 t) (iblk m hO c 2 t) (iblk m hO c 3 t) r l else Y (ix2 r l) := by
  rw [outAt]
  rw [validW_at H]
  refine (congrFun (if_pos ((cond_valid s t.val).2 h)) (ix2 r l)).trans ((stepA_apply (startW m hO c t) (tileW m hO c t) (iblk m hO c 0 t)
    (iblk m hO c 1 t) (iblk m hO c 2 t) (iblk m hO c 3 t) Y r l).trans ?_)
  rw [startW_at H, tileW_at H, rowBit_eq _ _ (pre_le H.sum_ _ (by have := expert_lt H.sum_ t.val; omega)) (tile_lt H.sum_ _)]
  split
  · exact if_pos rfl
  · exact if_neg (by decide)

/-- The output block is written back at the last point, and where the next point's tile differs. -/
theorem flush_iff (t : Fin grid0.N) : ((cfgM m hO).win 4).flush t = true ↔ (t.val + 1 = 31 ∨ tile s (t.val + 1) ≠ tile s t.val) := by
  have e : ∀ u : Fin grid0.N, ((cfgM m hO).win 4).index u = ![tile s u.val, 0] := fun u => index_4 H hO u
  rw [show ((cfgM m hO).win 4).flush t = (true && (t.val + 1 = grid0.N || decide (∃ h : t.val + 1 < grid0.N, ((cfgM m hO).win 4).index ⟨t.val + 1, h⟩ ≠ ((cfgM m hO).win 4).index t))) from rfl,
    Bool.true_and, Bool.or_eq_true, decide_eq_true_iff, decide_eq_true_iff]
  have ht : t.val < 31 := t.isLt
  constructor
  · rintro (h | ⟨h, hne⟩)
    · exact Or.inl (h.trans N_0)
    · refine Or.inr fun q => hne ?_
      rw [e, e]
      show ![tile s (t.val + 1), 0] = ![tile s t.val, 0]
      rw [q]
  · rintro (h | hne)
    · exact Or.inl (h.trans N_0.symm)
    · by_cases h : t.val + 1 = 31
      · exact Or.inl (h.trans N_0.symm)
      · refine Or.inr ⟨(by omega : t.val + 1 < 31).trans_eq N_0.symm, fun q => hne ?_⟩
        rw [e, e] at q
        exact congrFun q 0

/-- THE INVARIANT. After point `t`, each row of its tile that lies before its group's end holds the result. -/
theorem leaves_row : ∀ (n : ℕ) (t : Fin grid0.N) (_ : t.val = n) (Y : Vec Ideal S512x2816 .bf16) (_ : (rdat m hO c).Leaves 4 t Y) (r : Fin 512) (l : Fin 2816)
    (_ : tile s t.val * 512 + r.val < pre s (expert s t.val + 1)), (Y (ix2 r l) : EReal) = goal m s c (rowOf m H t.val r) l := by
  intro n
  induction n with
  | zero =>
    intro t ht Y hY r l hr
    obtain ⟨Y0, -, rfl⟩ : ∃ Y0 : Vec Ideal S512x2816 .bf16, (rdat m hO c).Finds 4 t Y0 ∧ Y = outAt m hO c t Y0 := hY
    obtain ⟨z1, z2, z3⟩ := at_zero H.sum_
    show outAt m hO c t Y0 (ix2 r l) = _
    have hs : pre s (expert s t.val) ≤ tile s t.val * 512 + r.val := by rw [ht, z2]; exact Nat.zero_le _
    rw [outAt_apply H hO c t (by omega), if_pos hs]
    exact prod_eq H hO c t r l hs hr
  | succ n ih =>
    intro t ht Y hY r l hr
    obtain ⟨Y0, hF, rfl⟩ : ∃ Y0 : Vec Ideal S512x2816 .bf16, (rdat m hO c).Finds 4 t Y0 ∧ Y = outAt m hO c t Y0 := hY
    have hlt : t.val < 31 := t.isLt
    replace hF := ((rdat m hO c).finds_of_pos (w := 4) (t := t) rfl (by omega) Y0).1 hF
    have hp : (⟨t.val - 1, Nat.lt_of_le_of_lt (Nat.sub_le _ _) t.isLt⟩ : Fin grid0.N) = ⟨n, by rw [N_0]; omega⟩ := Fin.ext (by show t.val - 1 = n; omega)
    have hF' : ((cfgM m hO).win 4).flush (⟨n, by rw [N_0]; omega⟩ : Fin grid0.N) = true ∨ (rdat m hO c).Leaves 4 (⟨n, by rw [N_0]; omega⟩ : Fin grid0.N) Y0 := hp ▸ hF
    have stay : tile s (n + 1) = tile s n → (rdat m hO c).Leaves 4 (⟨n, by rw [N_0]; omega⟩ : Fin grid0.N) Y0 := fun q =>
      hF'.resolve_left fun h => by
        rcases (flush_iff H hO (⟨n, by rw [N_0]; omega⟩ : Fin grid0.N)).1 h with h | h
        · change n + 1 = 31 at h; omega
        · exact h q
    show outAt m hO c t Y0 (ix2 r l) = _
    have hrow : tile s (n + 1) = tile s n → rowOf m H n r = rowOf m H t.val r := fun q => Fin.ext (by
      show tile s n * 512 + r.val = tile s t.val * 512 + r.val
      rw [ht, q])
    rcases step H.sum_ n with ⟨h1, h2, h3⟩ | ⟨h1, h2, h3⟩ | ⟨h1, h2, h3, h4⟩
    · rw [outAt_idle H hO c t (by omega), ← hrow h2]
      refine ih _ rfl Y0 (stay h2) r l ?_
      show tile s n * 512 + r.val < pre s (expert s n + 1)
      rw [ht, h2, h3] at hr; exact hr
    · rw [outAt_apply H hO c t (by omega)]
      split
      · next hs => exact prod_eq H hO c t r l hs hr
      · next hs =>
        rw [← hrow h2]
        refine ih _ rfl Y0 (stay h2) r l ?_
        show tile s n * 512 + r.val < pre s (expert s n + 1)
        rw [ht, h2, h3] at hs; omega
    · have hs : pre s (expert s t.val) ≤ tile s t.val * 512 + r.val := by rw [ht]; omega
      rw [outAt_apply H hO c t (by omega), if_pos hs]
      exact prod_eq H hO c t r l hs hr

/-- So a block written back holds the result on all its rows. -/
theorem flushed_row (t : Fin grid0.N) (hf : ((cfgM m hO).win 4).flush t = true) (Y : Vec Ideal S512x2816 .bf16) (hY : (rdat m hO c).Leaves 4 t Y)
    (r : Fin 512) (l : Fin 2816) : (Y (ix2 r l) : EReal) = goal m s c (rowOf m H t.val r) l := by
  refine leaves_row H hO c _ t rfl Y hY r l ?_
  have hr := r.isLt
  rcases (flush_iff H hO t).1 hf with h | h
  · obtain ⟨z1, z2⟩ := at_last H.sum_
    rw [show t.val = 30 by omega, z1, z2]; omega
  · rcases step H.sum_ t.val with ⟨_, h2, _⟩ | ⟨_, h2, _⟩ | ⟨_, _, h3, _⟩
    · exact absurd h2 h
    · exact absurd h2 h
    · omega

/-- What the result array is shown to hold. -/
def result (m : (ℓ : Loc nD τ sig) → Buf (Elt Ideal) ℓ) (s : ℕ → ℕ) (c : Dev nD) : Vec Ideal S12288x2816 .bf16 := fun i => goal m s c (i 0) (i 1)

/-- What a point writes back is its block of the result. -/
theorem flushed_eq (after : (w : Fin (cfgM m hO).W) → (t : Fin (cfgM m hO).N) → (((cfgM m hO).win w).block.Idx → Elt Ideal ((cfgM m hO).win w).elt))
    (hL : ∀ (w) (t), ((cfgM m hO).win w).flush t = true → (rdat m hO c).Leaves w t (after w t)) (t : Fin (cfgM m hO).N) (hf : ((cfgM m hO).win 4).flush t = true) :
    ((rdat m hO c).withAfter after).flushed 4 t = (((cfgM m hO).win 4).blk t).view.read (Elt Ideal) (result m s c) := by
  have h := index_4 H hO t
  have key : ∀ j : S512x2816.Idx, (after 4 t : Vec Ideal S512x2816 .bf16) j = result m s c ((((cfgM m hO).win 4).rect t).emb j) := by
    intro j
    have hj : j = ix2 (j 0) (j 1) := eq_ix2 j
    have e : (((cfgM m hO).win 4).rect t).emb j = ix2 (rowOf m H t.val (j 0)) (j 1) := by
      funext a
      apply Fin.ext
      show ((cfgM m hO).win 4).index t a * S512x2816.size a + 1 * (j a).val = (ix2 (rowOf m H t.val (j 0)) (j 1) a).val
      rw [h]
      match a with
      | ⟨0, _⟩ => show tile s t.val * 512 + 1 * (j 0).val = tile s t.val * 512 + (j 0).val; omega
      | ⟨1, _⟩ => show 0 * 2816 + 1 * (j 1).val = (j 1).val; omega
    rw [e]
    conv_lhs => rw [hj]
    exact flushed_row H hO c t hf _ (hL 4 t hf) (j 0) (j 1)
  exact funext key

/-- Every element of the result lies in a block that is written back. -/
theorem cover (i : S12288x2816.Idx) : ∃ t : Fin (cfgM m hO).N, ((cfgM m hO).win 4).flush t = true ∧ i ∈ (((cfgM m hO).win 4).blk t).view.set := by
  have hi : (i 0).val < 12288 := (i 0).isLt
  have hi1 : (i 1).val < 2816 := (i 1).isLt
  obtain ⟨j, hj, ht, hl⟩ := exists_last s H.sum_ ((i 0).val / 512) (by omega)
  let t : Fin grid0.N := ⟨j, by rw [N_0]; exact hj⟩
  refine ⟨t, (flush_iff H hO t).2 (hl.imp (fun h => by show j + 1 = 31; omega) id), ?_⟩
  show i ∈ ((View.whole main_v56).slice (((cfgM m hO).win 4).rect t)).set
  erw [View.set_slice_whole]
  refine (Pipeline.Window.mem_rect_iff ((cfgM m hO).win 4) t i (by rfl)).mpr fun a => ?_
  have h := index_4 H hO t
  show ((cfgM m hO).win 4).index t a * S512x2816.size a ≤ (i a).val ∧ (i a).val < ((cfgM m hO).win 4).index t a * S512x2816.size a + S512x2816.size a
  rw [h]
  match a with
  | ⟨0, _⟩ => show tile s j * 512 ≤ (i 0).val ∧ (i 0).val < tile s j * 512 + 512; omega
  | ⟨1, _⟩ => show 0 * 2816 ≤ (i 1).val ∧ (i 1).val < 0 * 2816 + 2816; omega

end Cert.KernelIdeal.Hand

end
-- ==== Proof.Ideal.Final.lean ====
/- The ideal kernel's run, with what its result array holds at the end. -/
module

public import proofs.«01_k».proof.Proof.Ideal.Invariant
public import proofs.«01_k».proof.Proof.Ideal.Unchanged

@[expose] public section

set_option maxRecDepth 16384

noncomputable section

namespace Cert.KernelIdeal.Hand

open Cert.KernelIdeal.Gen
open Idealize.ShloMosaic Idealize.ShloMosaic.TcCoe Idealize.ShloMosaic.Tactic
open Idealize.SL.Sem
open Idealize.ShloMosaic.Pipeline (Dat Cfg Window)
open Ragged

attribute [local irreducible] V tbl cc0_transform_0 cc0_transform_1 cc0_transform_2 cc0_transform_3 cc0_transform_4 tile expert outAt result

variable {m : (ℓ : Loc nD τ sig) → Buf (Elt Ideal) ℓ} {s : ℕ → ℕ} (H : Sizes m s) (hO : Ok m) (ρ : Dev nD → PrngReg)

include H hO

/-- Where the launch ends, the result array holds the grouped product. -/
theorem value_of {r : PUnit × MemSt nD τ sig (Elt Ideal)}
    (h : Pipeline.RDat.FramePost ((Pipeline.pin pcfgs fun _ => adm m hO) 0) (fun c => rdat m hO c) (V m) r) (c : Dev nD) :
    r.2.mem ((c.tc : Thread nD τ).loc main_v56) = result m s c := by
  obtain ⟨after, hL, hA⟩ := Pipeline.RDat.FramePost.exists_exact h c
  exact (hA 4).trans (Dat.arrAt_eq_of_cover _ 4 (result m s c) (fun t hf => flushed_eq H hO c after hL t hf) (cover H hO))

/-- The kernel terminates with the grouped product in its result array and its arguments unchanged. -/
theorem run_value : θ_run defs (onTc (τ := τ) (main (F := Ideal))) ⟨m, fun _ => 0, ρ⟩ (fun r => ∀ c : Dev nD,
      r.2.mem ((c.tc : Thread nD τ).loc main_v56) = result m s c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨value_of H hO h.1 c, args_of m hO h.1 c⟩) (run_main_quiescent m ρ hO)

end Cert.KernelIdeal.Hand

end
-- ==== Proof.Reference.Product.lean ====
/- What the reference stores, element by element: of the eight products and scales the one whose number the row's group id is. -/
module

public import proofs.«01_k».proof.Proof.Gen.ReferenceIdeal.Value
public import proofs.«01_k».proof.Proof.Ideal.Invariant
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pointwise

/-- One of the values `f 0, …, f (n - 1)`, chosen one after the other by comparing a word with each number; zero if none is chosen. -/
def pick (v : BitVec 32) (f : ℕ → EReal) : ℕ → EReal
  | 0 => (0 : EReal)
  | n + 1 => Scalar.select (IntOp.cmpi .eq v (BitVec.ofNat 32 n)) (f n) (pick v f n)

/-- The word of `g` chooses `f g`. -/
theorem pick_eq (f : ℕ → EReal) (g n : ℕ) (hg : g < 8) (hn : n ≤ 8) : pick (BitVec.ofNat 32 g) f n = if g < n then f g else 0 := by
  induction n with
  | zero => rfl
  | succ n ih =>
    have h : IntOp.cmpi .eq (BitVec.ofNat 32 g) (BitVec.ofNat 32 n) = BitVec.ofBool (decide (g = n)) := by
      rw [show ∀ a b : BitVec 32, IntOp.cmpi .eq a b = BitVec.ofBool (a == b) from fun _ _ => rfl]
      congr 1
      rw [Bool.eq_iff_iff, beq_iff_eq, decide_eq_true_iff]
      refine ⟨fun q => ?_, fun q => by rw [q]⟩
      have := congrArg BitVec.toNat q
      rw [BitVec.toNat_ofNat, BitVec.toNat_ofNat] at this
      omega
    show Scalar.select _ _ _ = _
    rw [h, ih (by omega)]
    by_cases q : g = n
    · rw [decide_eq_true q, q, if_pos (Nat.lt_succ_self n)]; rfl
    · rw [decide_eq_false q]
      have e : (g < n + 1) = (g < n) := propext ⟨fun _ => by omega, fun _ => by omega⟩
      simp only [e]; rfl

/-- The stored block at a row and a column. -/
theorem out_apply (x0 : Vec Ideal S12288x2816 .fp8e4m3) (x1 : Vec Ideal S12288x1 .f32) (x2 : Vec Ideal S12288x1 .i32)
    (x3 : Vec Ideal S8x2816x2816 .fp8e4m3) (x4 : Vec Ideal S8x2816 .f32) (r : Fin 12288) (l : Fin 2816) :
    out0_5 x0 x1 x2 x3 x4 (ix2 r l) =
      pick (x2 (ix2 r (0 : Fin 1))) (fun g => ∑ k : Fin 2816, (x0 (ix2 r k) : EReal) * (x3 (ix3 (⟨g % 8, Nat.mod_lt _ (by decide)⟩ : Fin 8) k l) : EReal)) 8
        * (x1 (ix2 r (0 : Fin 1)) : EReal)
        * pick (x2 (ix2 r (0 : Fin 1))) (fun g => (x4 (ix2 (⟨g % 8, Nat.mod_lt _ (by decide)⟩ : Fin 8) l) : EReal)) 8 := by
  unfold_out out0_5
  unfold_payloads
  rw [View.canon_unit_zero (funext fun a => by match a with | ⟨0, _⟩ => rfl | ⟨1, _⟩ => rfl)]
  pointwise
  rfl

end Cert.ReferenceIdeal.Hand

end
-- ==== Proof.Reference.Groups.lean ====
/- The reference's group ids: at each row, how many groups end at or before it. -/
module

public import proofs.«01_k».proof.Proof.Gen.ReferenceIdeal.Frame
public import proofs.«01_k».proof.Proof.Plan
public import Idealize.ShloMosaic.Lib.Routing.Words
public import Idealize.ShloMosaic.Lib.Routing.OpsSearch
public import Idealize.ShloMosaic.Lib.Routing.OpsPair
public import Idealize.ShloMosaic.Lib.StableHlo.Predicate
public import Idealize.ShloMosaic.Lib.StableHlo.RunRead

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.ShloMosaic.Routing
open Idealize.ShloMosaic.StableHlo.Predicate
open Ragged

variable {F : FTy → Type} [FloatOps F]
variable (m : (ℓ : Loc nD τ sig) → Buf (Elt F) ℓ) (c : Dev nD)

/-- The ends of the groups, as the host program sums them up. -/
def ends : IVec S8 32 :=
  Host.reduceWindow IntOp.addi ![8] ![1] ![7] ![0] (m ((c : Thread nD τ).loc main_arg2) : IVec S8 32)
    (broadcastInDim S_ ![] bcast_S_S_ (constantI S_ 32 0#32)) reduceWindows_S8_S8_w8s1p7_0 h_S_

/-- The mask of the group ends that a row has reached. -/
def reached : IVec S12288x8 1 :=
  cmpi .sge (broadcastInDim S12288x8 ![0, 1] bcast_S12288x1_S12288x8_0_1 (broadcastInDim S12288x1 ![0] bcast_S12288_S12288x1_0 (iotaInDim S12288 32 0)))
    (broadcastInDim S12288x8 ![0, 1] bcast_S1x8_S12288x8_0_1 (broadcastInDim S1x8 ![1] bcast_S8_S1x8_1 (ends m c)))

set_option maxHeartbeats 4000000 in
/-- The group ids as the kernel call is handed them. -/
theorem eq_v9 : (V m c main_v9 : IVec S12288x1 32) = broadcastInDim S12288x1 ![0] bcast_S12288_S12288x1_0
    (Host.reduce IntOp.addi (extui 32 (reached m c) natLt_1_32) (constantI S_ 32 0#32) reducesTo_S12288x8_S12288_d1 h_S_) := by
  unfold reached ends V; after_reads_simp
  try simp -implicitDefEqProofs only [StableHlo.TRef.toBuf, StableHlo.TRef.ofBuf, cast_cast, cast_eq, id_eq]
  try rfl

variable {m c} {s : ℕ → ℕ} (hs : ∀ g : Fin 8, (m ((c : Thread nD τ).loc main_arg2) : IVec S8 32) (ix1 g) = BitVec.ofNat 32 (s g.val))
  (hsum : pre s 8 = 12288)
include hs

theorem ends_at (g : Fin 8) : ends m c (ix1 g) = BitVec.ofNat 32 (pre s (g.val + 1)) := by
  unfold ends
  rw [← sum_range]
  exact cumsum1 rfl _ s hs _ rfl _ _ g

include hsum

/-- The group id of a row, decoded. -/
theorem gid_at (r : Fin 12288) : (V m c main_v9 : IVec S12288x1 32) (ix2 r (0 : Fin 1)) = BitVec.ofNat 32 (gid s r.val) := by
  have hr := r.isLt
  rw [eq_v9, bcCol]
  refine reduce_count (by decide) _ natLt_1_32 reducesTo_S12288x8_S12288_d1 h_S_ r (fun g => pre s (g + 1) ≤ r.val) fun q => ?_
  have hq := pre_le hsum (q.val + 1) (by omega)
  unfold reached
  change IntOp.cmpi .sge (broadcastInDim S12288x8 ![0, 1] bcast_S12288x1_S12288x8_0_1 (broadcastInDim S12288x1 ![0] bcast_S12288_S12288x1_0 (iotaInDim S12288 32 0)) (ix2 r q))
    (broadcastInDim S12288x8 ![0, 1] bcast_S1x8_S12288x8_0_1 (broadcastInDim S1x8 ![1] bcast_S8_S1x8_1 (ends m c)) (ix2 r q)) = 1#1 ↔ _
  rw [← ij_eq_ix2, bcast_rows, bcast_cols, ofFin_eq_ix1, ofFin_eq_ix1, ends_at hs]
  change IntOp.cmpi .sge (BitVec.ofNat 32 r.val) _ = 1#1 ↔ _
  rw [sge_iff_toNat (by rw [BitVec.toNat_ofNat]; omega) (by rw [BitVec.toNat_ofNat]; omega), BitVec.toNat_ofNat, BitVec.toNat_ofNat]
  omega

/-- Every row belongs to one of the eight groups. -/
theorem gid_lt (r : Fin 12288) : gid s r.val < 8 := by
  have hr := r.isLt
  obtain ⟨c1, c2⟩ := lt_count_iff (fun g => pre s (g + 1)) (fun a b h => pre_mono _ (by omega)) r.val 8
  change gid s r.val ≤ 8 at c1
  change ∀ g < 8, (pre s (g + 1) ≤ r.val ↔ g < gid s r.val) at c2
  have := c2 7 (by omega)
  have h8 : pre s (7 + 1) = 12288 := hsum
  omega

end Cert.ReferenceIdeal.Hand

end
-- ==== Proof.Reference.Value.lean ====
/- The reference's run, with what its result array holds at the end: the grouped product. -/
module

public import proofs.«01_k».proof.Proof.Reference.Product
public import proofs.«01_k».proof.Proof.Reference.Groups

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pointwise
open Idealize.SL.Sem
open Idealize.ShloMosaic.Pipeline (Dat)
open Ragged

attribute [local irreducible] out0_5

section
variable {F : FTy → Type} [FloatOps F]
variable (m : (ℓ : Loc nD τ sig) → Buf (Elt F) ℓ) (c : Dev nD) (t : Fin grid0.N)

/-! At the one grid point each window's block is its whole array. -/

theorem blk_0 (i : S12288x2816.Idx) : (iblk m c 0 t : Vec F S12288x2816 .fp8e4m3) i = (m ((c : Thread nD τ).loc main_arg0) : Vec F S12288x2816 .fp8e4m3) i := by
  obtain rfl := fin_N0 t
  have e : ((cfg0.win 0).rect t0_0).emb i = i := by
    funext a
    apply Fin.ext
    match a with
    | ⟨0, _⟩ => show 0 * 12288 + 1 * (i 0).val = (i 0).val; omega
    | ⟨1, _⟩ => show 0 * 2816 + 1 * (i 1).val = (i 1).val; omega
  exact (congrArg (V m c main_arg0 : Vec F S12288x2816 .fp8e4m3) e).trans (congrFun (V_main_arg0 m c) i)

theorem blk_1 (i : S12288x1.Idx) : (iblk m c 1 t : Vec F S12288x1 .f32) i = (m ((c : Thread nD τ).loc main_arg1) : Vec F S12288x1 .f32) i := by
  obtain rfl := fin_N0 t
  have e : ((cfg0.win 1).rect t0_0).emb i = i := by
    funext a
    apply Fin.ext
    match a with
    | ⟨0, _⟩ => show 0 * 12288 + 1 * (i 0).val = (i 0).val; omega
    | ⟨1, _⟩ => show 0 * 1 + 1 * (i 1).val = (i 1).val; omega
  exact (congrArg (V m c main_arg1 : Vec F S12288x1 .f32) e).trans (congrFun (V_main_arg1 m c) i)

theorem blk_2 (i : S12288x1.Idx) : (iblk m c 2 t : Vec F S12288x1 .i32) i = (V m c main_v9 : IVec S12288x1 32) i := by
  obtain rfl := fin_N0 t
  have e : ((cfg0.win 2).rect t0_0).emb i = i := by
    funext a
    apply Fin.ext
    match a with
    | ⟨0, _⟩ => show 0 * 12288 + 1 * (i 0).val = (i 0).val; omega
    | ⟨1, _⟩ => show 0 * 1 + 1 * (i 1).val = (i 1).val; omega
  exact congrArg (V m c main_v9 : IVec S12288x1 32) e

theorem blk_3 (i : S8x2816x2816.Idx) : (iblk m c 3 t : Vec F S8x2816x2816 .fp8e4m3) i = (m ((c : Thread nD τ).loc main_arg3) : Vec F S8x2816x2816 .fp8e4m3) i := by
  obtain rfl := fin_N0 t
  have e : ((cfg0.win 3).rect t0_0).emb i = i := by
    funext a
    apply Fin.ext
    match a with
    | ⟨0, _⟩ => show 0 * 8 + 1 * (i 0).val = (i 0).val; omega
    | ⟨1, _⟩ => show 0 * 2816 + 1 * (i 1).val = (i 1).val; omega
    | ⟨2, _⟩ => show 0 * 2816 + 1 * (i 2).val = (i 2).val; omega
  exact (congrArg (V m c main_arg3 : Vec F S8x2816x2816 .fp8e4m3) e).trans (congrFun (V_main_arg3 m c) i)

theorem blk_4 (i : S8x2816.Idx) : (iblk m c 4 t : Vec F S8x2816 .f32) i = (m ((c : Thread nD τ).loc main_arg4) : Vec F S8x2816 .f32) i := by
  obtain rfl := fin_N0 t
  have e : ((cfg0.win 4).rect t0_0).emb i = i := by
    funext a
    apply Fin.ext
    match a with
    | ⟨0, _⟩ => show 0 * 8 + 1 * (i 0).val = (i 0).val; omega
    | ⟨1, _⟩ => show 0 * 2816 + 1 * (i 1).val = (i 1).val; omega
  exact (congrArg (V m c main_arg4 : Vec F S8x2816 .f32) e).trans (congrFun (V_main_arg4 m c) i)

end

variable (m : (ℓ : Loc nD τ sig) → Buf (Elt Ideal) ℓ) (s : ℕ → ℕ) (c : Dev nD)

/-- What the reference's result array is shown to hold. -/
def result : Vec Ideal S12288x2816 .bf16 := fun i =>
  valAt s (fun r k => (m ((c : Thread nD τ).loc main_arg0) : Vec Ideal S12288x2816 .fp8e4m3) (ix2 r k))
    (fun r => (m ((c : Thread nD τ).loc main_arg1) : Vec Ideal S12288x1 .f32) (ix2 r (0 : Fin 1)))
    (fun g k l => (m ((c : Thread nD τ).loc main_arg3) : Vec Ideal S8x2816x2816 .fp8e4m3) (ix3 g k l))
    (fun g l => (m ((c : Thread nD τ).loc main_arg4) : Vec Ideal S8x2816 .f32) (ix2 g l)) (i 0) (i 1)

variable {m s c} (hs : ∀ g : Fin 8, (m ((c : Thread nD τ).loc main_arg2) : IVec S8 32) (ix1 g) = BitVec.ofNat 32 (s g.val)) (hsum : pre s 8 = 12288)
include hs hsum

/-- What the body stores is the grouped product. -/
theorem out_eq (t : Fin grid0.N) (r : Fin 12288) (l : Fin 2816) :
    out0_5 (iblk m c 0 t) (iblk m c 1 t) (iblk m c 2 t) (iblk m c 3 t) (iblk m c 4 t) (ix2 r l) = result m s c (ix2 r l) := by
  rw [out_apply]
  have hg := gid_lt hs hsum r
  have e2 : (iblk m c 2 t : Vec Ideal S12288x1 .i32) (ix2 r (0 : Fin 1)) = BitVec.ofNat 32 (gid s r.val) := (blk_2 m c t _).trans (gid_at hs hsum r)
  rw [e2, pick_eq _ _ 8 hg le_rfl, pick_eq _ _ 8 hg le_rfl, if_pos hg, if_pos hg, blk_1 m c t, blk_4 m c t]
  simp only [blk_0 m c t, blk_3 m c t]
  rfl

/-- What the one point writes back is the result. -/
theorem flushed_eq (t : Fin cfg0.N) : (dats m 0 c).flushed 5 t = ((cfg0.win 5).blk t).view.read (Elt Ideal) (result m s c) := by
  rw [Value.flushed5]
  have key : ∀ j : S12288x2816.Idx, out0_5 (iblk m c 0 t) (iblk m c 1 t) (iblk m c 2 t) (iblk m c 3 t) (iblk m c 4 t) j
      = result m s c (((cfg0.win 5).rect t).emb j) := by
    intro j
    obtain rfl := fin_N0 t
    have e : ((cfg0.win 5).rect t0_0).emb j = j := by
      funext a
      apply Fin.ext
      match a with
      | ⟨0, _⟩ => show 0 * 12288 + 1 * (j 0).val = (j 0).val; omega
      | ⟨1, _⟩ => show 0 * 2816 + 1 * (j 1).val = (j 1).val; omega
    rw [e, eq_ix2 j]
    exact out_eq hs hsum t0_0 (j 0) (j 1)
  exact funext key

omit hs hsum in
/-- The one block covers the array. -/
theorem cover (i : S12288x2816.Idx) : ∃ t : Fin cfg0.N, (cfg0.win 5).flush t = true ∧ i ∈ ((cfg0.win 5).blk t).view.set := by
  refine ⟨t0_0, flush0_5 t0_0, ?_⟩
  show i ∈ ((View.whole main_v10).slice ((cfg0.win 5).rect t0_0)).set
  erw [View.set_slice_whole]
  refine (Pipeline.Window.mem_rect_iff (cfg0.win 5) t0_0 i (by rfl)).mpr fun a => ?_
  have h0 : (i 0).val < 12288 := (i 0).isLt
  have h1 : (i 1).val < 2816 := (i 1).isLt
  match a with
  | ⟨0, _⟩ => show 0 * 12288 ≤ (i 0).val ∧ (i 0).val < 0 * 12288 + 12288; omega
  | ⟨1, _⟩ => show 0 * 2816 ≤ (i 1).val ∧ (i 1).val < 0 * 2816 + 2816; omega

/-- After the run the result array holds the grouped product. -/
theorem final : (dats m 0 c).arrAt 5 cfg0.N = result m s c :=
  Dat.arrAt_eq_of_cover (dats m 0 c) 5 (result m s c) (fun t _ => flushed_eq hs hsum t) cover

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_sizes_fit
public import proofs.«01_k».proof.Proof.Bits.Ok
public import proofs.«01_k».proof.Proof.Bits.Unchanged
public import proofs.«01_k».proof.Proof.Ideal.Final
public import proofs.«01_k».proof.Proof.Reference.Value
public import Idealize.ShloMosaic.Adequacy
public import Idealize.ShloMosaic.Init

@[expose] public section

noncomputable section

namespace Cert.Proof

open Idealize.ShloMosaic Idealize.SL.Sem

/-- Kernel and reference, from memories that agree on the arguments, both end with the grouped product in their result arrays. -/
theorem algebraic : algebraic_KernelIdeal_ReferenceIdeal (hKernelIdeal := Cert.KernelIdeal.Gen.facts) (hReferenceIdeal := Cert.ReferenceIdeal.Gen.facts)
    (hPre_sizes_fit := Cert.Pre_sizes_fit.Gen.facts) := by
  intro m g m' g' hpre hargs
  have H := Cert.KernelIdeal.Hand.sizes_of_args hpre
  have hO := Cert.KernelIdeal.Hand.ok_of_sizes H
  refine ⟨fun c => Cert.KernelIdeal.Hand.result m _ c, Cert.KernelIdeal.Hand.run_value H hO g,
    (θ_run Cert.ReferenceIdeal.defs _ _).mono (fun r h c => ⟨(h c).1.trans ?_, (h c).2⟩) (Cert.ReferenceIdeal.Value.run_blocks m' g')⟩
  obtain ⟨h0, h1, h2, h3, h4⟩ := hargs c
  have hs : ∀ q : Fin 8, (m' ((c.tc : Thread Cert.ReferenceIdeal.nD Cert.ReferenceIdeal.τ).loc Cert.ReferenceIdeal.main_arg2) : IVec Cert.ReferenceIdeal.S8 32) (ValueIdx.ix1 q)
      = BitVec.ofNat 32 (Cert.KernelIdeal.Hand.sizeOf (Cert.KernelIdeal.Hand.w_arg2 m) q.val) := by
    intro q
    rw [← H.at_ q, h2, Cert.KernelIdeal.Hand.eq_arg2]
    obtain rfl : c = 0 := Subsingleton.elim _ _
    rfl
  refine (Cert.ReferenceIdeal.Hand.final hs H.sum_).trans ?_
  unfold Cert.ReferenceIdeal.Hand.result Cert.KernelIdeal.Hand.result Cert.KernelIdeal.Hand.goal
  rw [h0, h1, h3, h4]

/-- All the claims together. -/
theorem claim : Cert.Claim :=
  ⟨Cert.Kernel.Gen.facts, Cert.KernelIdeal.Gen.facts, Cert.ReferenceIdeal.Gen.facts, Cert.Pre_sizes_fit.Gen.facts,
    fun m g h => Cert.Kernel.Hand.frame m g (Cert.Kernel.Hand.ok_of_sizes (Cert.Kernel.Hand.sizes_of_args h)),
    fun m g h => Cert.KernelIdeal.Hand.frame m g (Cert.KernelIdeal.Hand.ok_of_sizes (Cert.KernelIdeal.Hand.sizes_of_args h)),
    fun m g _ => Cert.ReferenceIdeal.Gen.frame m g,
    fun m g _ => Cert.ReferenceIdeal.Gen.frame m g,
    trivial, algebraic⟩

end Cert.Proof

end
